-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_rows [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestIdeal_pos_sound [hPre_pos_sound : Cert.Pre_pos_sound.Facts] (m : (ℓ : Loc Cert.NearestIdeal.nD Cert.NearestIdeal.τ Cert.NearestIdeal.sig) → Buf (Elt Ideal) ℓ) : Prop :=
  ∀ c : Dev Cert.NearestIdeal.nD,
    (Cert.Pre_pos_sound.fn (F := Ideal) (m ((c.tc : Thread Cert.NearestIdeal.nD Cert.NearestIdeal.τ).loc Cert.NearestIdeal.main_arg0)) (m ((c.tc : Thread Cert.NearestIdeal.nD Cert.NearestIdeal.τ).loc Cert.NearestIdeal.main_arg1)) (m ((c.tc : Thread Cert.NearestIdeal.nD Cert.NearestIdeal.τ).loc Cert.NearestIdeal.main_arg2)) (m ((c.tc : Thread Cert.NearestIdeal.nD Cert.NearestIdeal.τ).loc Cert.NearestIdeal.main_arg3))) = (fun _ => 1#1)

def Pre_NearestRefIdeal (m : (ℓ : Loc Cert.NearestRefIdeal.nD Cert.NearestRefIdeal.τ Cert.NearestRefIdeal.sig) → Buf (Elt Ideal) ℓ) : Prop :=
  True

def Pre_NearestRefIdeal_pos_sound [hPre_pos_sound : Cert.Pre_pos_sound.Facts] (m : (ℓ : Loc Cert.NearestRefIdeal.nD Cert.NearestRefIdeal.τ Cert.NearestRefIdeal.sig) → Buf (Elt Ideal) ℓ) : Prop :=
  ∀ c : Dev Cert.NearestRefIdeal.nD,
    (Cert.Pre_pos_sound.fn (F := Ideal) (m ((c.tc : Thread Cert.NearestRefIdeal.nD Cert.NearestRefIdeal.τ).loc Cert.NearestRefIdeal.main_arg0)) (m ((c.tc : Thread Cert.NearestRefIdeal.nD Cert.NearestRefIdeal.τ).loc Cert.NearestRefIdeal.main_arg1)) (m ((c.tc : Thread Cert.NearestRefIdeal.nD Cert.NearestRefIdeal.τ).loc Cert.NearestRefIdeal.main_arg2)) (m ((c.tc : Thread Cert.NearestRefIdeal.nD Cert.NearestRefIdeal.τ).loc Cert.NearestRefIdeal.main_arg3))) = (fun _ => 1#1)

def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_EncodeIdeal_enc_sound [hPre_enc_sound : Cert.Pre_enc_sound.Facts] (m : (ℓ : Loc Cert.EncodeIdeal.nD Cert.EncodeIdeal.τ Cert.EncodeIdeal.sig) → Buf (Elt Ideal) ℓ) : Prop :=
  ∀ c : Dev Cert.EncodeIdeal.nD,
    (Cert.Pre_enc_sound.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7)) (m ((c.tc : Thread Cert.EncodeIdeal.nD Cert.EncodeIdeal.τ).loc Cert.EncodeIdeal.main_arg8)) (m ((c.tc : Thread Cert.EncodeIdeal.nD Cert.EncodeIdeal.τ).loc Cert.EncodeIdeal.main_arg9)) (m ((c.tc : Thread Cert.EncodeIdeal.nD Cert.EncodeIdeal.τ).loc Cert.EncodeIdeal.main_arg10)) (m ((c.tc : Thread Cert.EncodeIdeal.nD Cert.EncodeIdeal.τ).loc Cert.EncodeIdeal.main_arg11)) (m ((c.tc : Thread Cert.EncodeIdeal.nD Cert.EncodeIdeal.τ).loc Cert.EncodeIdeal.main_arg12)) (m ((c.tc : Thread Cert.EncodeIdeal.nD Cert.EncodeIdeal.τ).loc Cert.EncodeIdeal.main_arg13)) (m ((c.tc : Thread Cert.EncodeIdeal.nD Cert.EncodeIdeal.τ).loc Cert.EncodeIdeal.main_arg14)) (m ((c.tc : Thread Cert.EncodeIdeal.nD Cert.EncodeIdeal.τ).loc Cert.EncodeIdeal.main_arg15)) (m ((c.tc : Thread Cert.EncodeIdeal.nD Cert.EncodeIdeal.τ).loc Cert.EncodeIdeal.main_arg16))) = (fun _ => 1#1)

def Pre_EncodeRefIdeal (m : (ℓ : Loc Cert.EncodeRefIdeal.nD Cert.EncodeRefIdeal.τ Cert.EncodeRefIdeal.sig) → Buf (Elt Ideal) ℓ) : Prop :=
  True

def Pre_EncodeRefIdeal_enc_sound [hPre_enc_sound : Cert.Pre_enc_sound.Facts] (m : (ℓ : Loc Cert.EncodeRefIdeal.nD Cert.EncodeRefIdeal.τ Cert.EncodeRefIdeal.sig) → Buf (Elt Ideal) ℓ) : Prop :=
  ∀ c : Dev Cert.EncodeRefIdeal.nD,
    (Cert.Pre_enc_sound.fn (F := Ideal) (m ((c.tc : Thread Cert.EncodeRefIdeal.nD Cert.EncodeRefIdeal.τ).loc Cert.EncodeRefIdeal.main_arg0)) (m ((c.tc : Thread Cert.EncodeRefIdeal.nD Cert.EncodeRefIdeal.τ).loc Cert.EncodeRefIdeal.main_arg1)) (m ((c.tc : Thread Cert.EncodeRefIdeal.nD Cert.EncodeRefIdeal.τ).loc Cert.EncodeRefIdeal.main_arg2)) (m ((c.tc : Thread Cert.EncodeRefIdeal.nD Cert.EncodeRefIdeal.τ).loc Cert.EncodeRefIdeal.main_arg3)) (m ((c.tc : Thread Cert.EncodeRefIdeal.nD Cert.EncodeRefIdeal.τ).loc Cert.EncodeRefIdeal.main_arg4)) (m ((c.tc : Thread Cert.EncodeRefIdeal.nD Cert.EncodeRefIdeal.τ).loc Cert.EncodeRefIdeal.main_arg5)) (m ((c.tc : Thread Cert.EncodeRefIdeal.nD Cert.EncodeRefIdeal.τ).loc Cert.EncodeRefIdeal.main_arg6)) (m ((c.tc : Thread Cert.EncodeRefIdeal.nD Cert.EncodeRefIdeal.τ).loc Cert.EncodeRefIdeal.main_arg7)) (m ((c.tc : Thread Cert.EncodeRefIdeal.nD Cert.EncodeRefIdeal.τ).loc Cert.EncodeRefIdeal.main_arg8)) (m ((c.tc : Thread Cert.EncodeRefIdeal.nD Cert.EncodeRefIdeal.τ).loc Cert.EncodeRefIdeal.main_arg9)) (m ((c.tc : Thread Cert.EncodeRefIdeal.nD Cert.EncodeRefIdeal.τ).loc Cert.EncodeRefIdeal.main_arg10)) (m ((c.tc : Thread Cert.EncodeRefIdeal.nD Cert.EncodeRefIdeal.τ).loc Cert.EncodeRefIdeal.main_arg11)) (m ((c.tc : Thread Cert.EncodeRefIdeal.nD Cert.EncodeRefIdeal.τ).loc Cert.EncodeRefIdeal.main_arg12)) (m ((c.tc : Thread Cert.EncodeRefIdeal.nD Cert.EncodeRefIdeal.τ).loc Cert.EncodeRefIdeal.main_arg13)) (m ((c.tc : Thread Cert.EncodeRefIdeal.nD Cert.EncodeRefIdeal.τ).loc Cert.EncodeRefIdeal.main_arg14)) (m ((c.tc : Thread Cert.EncodeRefIdeal.nD Cert.EncodeRefIdeal.τ).loc Cert.EncodeRefIdeal.main_arg15)) (m ((c.tc : Thread Cert.EncodeRefIdeal.nD Cert.EncodeRefIdeal.τ).loc Cert.EncodeRefIdeal.main_arg16))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_rows [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1)
      ∧ r.2.mem ((c.tc : Thread Cert.Nearest.nD Cert.Nearest.τ).loc Cert.Nearest.main_arg2) = m ((c.tc : Thread Cert.Nearest.nD Cert.Nearest.τ).loc Cert.Nearest.main_arg2)
      ∧ r.2.mem ((c.tc : Thread Cert.Nearest.nD Cert.Nearest.τ).loc Cert.Nearest.main_arg3) = m ((c.tc : Thread Cert.Nearest.nD Cert.Nearest.τ).loc Cert.Nearest.main_arg3))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
      ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2)
      ∧ r.2.mem ((c.tc : Thread Cert.NearestIdeal.nD Cert.NearestIdeal.τ).loc Cert.NearestIdeal.main_arg3) = m ((c.tc : Thread Cert.NearestIdeal.nD Cert.NearestIdeal.τ).loc Cert.NearestIdeal.main_arg3))
      ∧ r.2.sem = fun _ => 0)

def quiescent_NearestIdeal_pre_pos_sound [hNearestIdeal : Cert.NearestIdeal.Facts] [hPre_pos_sound : Cert.Pre_pos_sound.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_pos_sound m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
      ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2)
      ∧ r.2.mem ((c.tc : Thread Cert.NearestIdeal.nD Cert.NearestIdeal.τ).loc Cert.NearestIdeal.main_arg3) = m ((c.tc : Thread Cert.NearestIdeal.nD Cert.NearestIdeal.τ).loc Cert.NearestIdeal.main_arg3))
      ∧ r.2.sem = fun _ => 0)

def quiescent_NearestRefIdeal [hNearestRefIdeal : Cert.NearestRefIdeal.Facts] : Prop :=
  ∀ (m : (ℓ : Loc Cert.NearestRefIdeal.nD Cert.NearestRefIdeal.τ Cert.NearestRefIdeal.sig) → Buf (Elt Ideal) ℓ) (g : Dev Cert.NearestRefIdeal.nD → PrngReg), Pre_NearestRefIdeal m →
    θ_run (Cert.NearestRefIdeal.defs (F := Ideal)) (onTc (τ := Cert.NearestRefIdeal.τ) (Cert.NearestRefIdeal.main (F := Ideal))) ⟨m, fun _ => 0, g⟩ (fun r => (∀ c : Dev Cert.NearestRefIdeal.nD,
      r.2.mem ((c.tc : Thread Cert.NearestRefIdeal.nD Cert.NearestRefIdeal.τ).loc Cert.NearestRefIdeal.main_arg0) = m ((c.tc : Thread Cert.NearestRefIdeal.nD Cert.NearestRefIdeal.τ).loc Cert.NearestRefIdeal.main_arg0)
      ∧ r.2.mem ((c.tc : Thread Cert.NearestRefIdeal.nD Cert.NearestRefIdeal.τ).loc Cert.NearestRefIdeal.main_arg1) = m ((c.tc : Thread Cert.NearestRefIdeal.nD Cert.NearestRefIdeal.τ).loc Cert.NearestRefIdeal.main_arg1)
      ∧ r.2.mem ((c.tc : Thread Cert.NearestRefIdeal.nD Cert.NearestRefIdeal.τ).loc Cert.NearestRefIdeal.main_arg2) = m ((c.tc : Thread Cert.NearestRefIdeal.nD Cert.NearestRefIdeal.τ).loc Cert.NearestRefIdeal.main_arg2)
      ∧ r.2.mem ((c.tc : Thread Cert.NearestRefIdeal.nD Cert.NearestRefIdeal.τ).loc Cert.NearestRefIdeal.main_arg3) = m ((c.tc : Thread Cert.NearestRefIdeal.nD Cert.NearestRefIdeal.τ).loc Cert.NearestRefIdeal.main_arg3))
      ∧ r.2.sem = fun _ => 0)

def quiescent_NearestRefIdeal_pre_pos_sound [hNearestRefIdeal : Cert.NearestRefIdeal.Facts] [hPre_pos_sound : Cert.Pre_pos_sound.Facts] : Prop :=
  ∀ (m : (ℓ : Loc Cert.NearestRefIdeal.nD Cert.NearestRefIdeal.τ Cert.NearestRefIdeal.sig) → Buf (Elt Ideal) ℓ) (g : Dev Cert.NearestRefIdeal.nD → PrngReg), Pre_NearestRefIdeal_pos_sound m →
    θ_run (Cert.NearestRefIdeal.defs (F := Ideal)) (onTc (τ := Cert.NearestRefIdeal.τ) (Cert.NearestRefIdeal.main (F := Ideal))) ⟨m, fun _ => 0, g⟩ (fun r => (∀ c : Dev Cert.NearestRefIdeal.nD,
      r.2.mem ((c.tc : Thread Cert.NearestRefIdeal.nD Cert.NearestRefIdeal.τ).loc Cert.NearestRefIdeal.main_arg0) = m ((c.tc : Thread Cert.NearestRefIdeal.nD Cert.NearestRefIdeal.τ).loc Cert.NearestRefIdeal.main_arg0)
      ∧ r.2.mem ((c.tc : Thread Cert.NearestRefIdeal.nD Cert.NearestRefIdeal.τ).loc Cert.NearestRefIdeal.main_arg1) = m ((c.tc : Thread Cert.NearestRefIdeal.nD Cert.NearestRefIdeal.τ).loc Cert.NearestRefIdeal.main_arg1)
      ∧ r.2.mem ((c.tc : Thread Cert.NearestRefIdeal.nD Cert.NearestRefIdeal.τ).loc Cert.NearestRefIdeal.main_arg2) = m ((c.tc : Thread Cert.NearestRefIdeal.nD Cert.NearestRefIdeal.τ).loc Cert.NearestRefIdeal.main_arg2)
      ∧ r.2.mem ((c.tc : Thread Cert.NearestRefIdeal.nD Cert.NearestRefIdeal.τ).loc Cert.NearestRefIdeal.main_arg3) = m ((c.tc : Thread Cert.NearestRefIdeal.nD Cert.NearestRefIdeal.τ).loc Cert.NearestRefIdeal.main_arg3))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2)
      ∧ r.2.mem ((c.tc : Thread Cert.Encode.nD Cert.Encode.τ).loc Cert.Encode.main_arg3) = m ((c.tc : Thread Cert.Encode.nD Cert.Encode.τ).loc Cert.Encode.main_arg3)
      ∧ r.2.mem ((c.tc : Thread Cert.Encode.nD Cert.Encode.τ).loc Cert.Encode.main_arg4) = m ((c.tc : Thread Cert.Encode.nD Cert.Encode.τ).loc Cert.Encode.main_arg4)
      ∧ r.2.mem ((c.tc : Thread Cert.Encode.nD Cert.Encode.τ).loc Cert.Encode.main_arg5) = m ((c.tc : Thread Cert.Encode.nD Cert.Encode.τ).loc Cert.Encode.main_arg5)
      ∧ r.2.mem ((c.tc : Thread Cert.Encode.nD Cert.Encode.τ).loc Cert.Encode.main_arg6) = m ((c.tc : Thread Cert.Encode.nD Cert.Encode.τ).loc Cert.Encode.main_arg6)
      ∧ r.2.mem ((c.tc : Thread Cert.Encode.nD Cert.Encode.τ).loc Cert.Encode.main_arg7) = m ((c.tc : Thread Cert.Encode.nD Cert.Encode.τ).loc Cert.Encode.main_arg7)
      ∧ r.2.mem ((c.tc : Thread Cert.Encode.nD Cert.Encode.τ).loc Cert.Encode.main_arg8) = m ((c.tc : Thread Cert.Encode.nD Cert.Encode.τ).loc Cert.Encode.main_arg8)
      ∧ r.2.mem ((c.tc : Thread Cert.Encode.nD Cert.Encode.τ).loc Cert.Encode.main_arg9) = m ((c.tc : Thread Cert.Encode.nD Cert.Encode.τ).loc Cert.Encode.main_arg9)
      ∧ r.2.mem ((c.tc : Thread Cert.Encode.nD Cert.Encode.τ).loc Cert.Encode.main_arg10) = m ((c.tc : Thread Cert.Encode.nD Cert.Encode.τ).loc Cert.Encode.main_arg10)
      ∧ r.2.mem ((c.tc : Thread Cert.Encode.nD Cert.Encode.τ).loc Cert.Encode.main_arg11) = m ((c.tc : Thread Cert.Encode.nD Cert.Encode.τ).loc Cert.Encode.main_arg11)
      ∧ r.2.mem ((c.tc : Thread Cert.Encode.nD Cert.Encode.τ).loc Cert.Encode.main_arg12) = m ((c.tc : Thread Cert.Encode.nD Cert.Encode.τ).loc Cert.Encode.main_arg12)
      ∧ r.2.mem ((c.tc : Thread Cert.Encode.nD Cert.Encode.τ).loc Cert.Encode.main_arg13) = m ((c.tc : Thread Cert.Encode.nD Cert.Encode.τ).loc Cert.Encode.main_arg13)
      ∧ r.2.mem ((c.tc : Thread Cert.Encode.nD Cert.Encode.τ).loc Cert.Encode.main_arg14) = m ((c.tc : Thread Cert.Encode.nD Cert.Encode.τ).loc Cert.Encode.main_arg14)
      ∧ r.2.mem ((c.tc : Thread Cert.Encode.nD Cert.Encode.τ).loc Cert.Encode.main_arg15) = m ((c.tc : Thread Cert.Encode.nD Cert.Encode.τ).loc Cert.Encode.main_arg15)
      ∧ r.2.mem ((c.tc : Thread Cert.Encode.nD Cert.Encode.τ).loc Cert.Encode.main_arg16) = m ((c.tc : Thread Cert.Encode.nD Cert.Encode.τ).loc Cert.Encode.main_arg16))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
      ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
      ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
      ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
      ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7)
      ∧ r.2.mem ((c.tc : Thread Cert.EncodeIdeal.nD Cert.EncodeIdeal.τ).loc Cert.EncodeIdeal.main_arg8) = m ((c.tc : Thread Cert.EncodeIdeal.nD Cert.EncodeIdeal.τ).loc Cert.EncodeIdeal.main_arg8)
      ∧ r.2.mem ((c.tc : Thread Cert.EncodeIdeal.nD Cert.EncodeIdeal.τ).loc Cert.EncodeIdeal.main_arg9) = m ((c.tc : Thread Cert.EncodeIdeal.nD Cert.EncodeIdeal.τ).loc Cert.EncodeIdeal.main_arg9)
      ∧ r.2.mem ((c.tc : Thread Cert.EncodeIdeal.nD Cert.EncodeIdeal.τ).loc Cert.EncodeIdeal.main_arg10) = m ((c.tc : Thread Cert.EncodeIdeal.nD Cert.EncodeIdeal.τ).loc Cert.EncodeIdeal.main_arg10)
      ∧ r.2.mem ((c.tc : Thread Cert.EncodeIdeal.nD Cert.EncodeIdeal.τ).loc Cert.EncodeIdeal.main_arg11) = m ((c.tc : Thread Cert.EncodeIdeal.nD Cert.EncodeIdeal.τ).loc Cert.EncodeIdeal.main_arg11)
      ∧ r.2.mem ((c.tc : Thread Cert.EncodeIdeal.nD Cert.EncodeIdeal.τ).loc Cert.EncodeIdeal.main_arg12) = m ((c.tc : Thread Cert.EncodeIdeal.nD Cert.EncodeIdeal.τ).loc Cert.EncodeIdeal.main_arg12)
      ∧ r.2.mem ((c.tc : Thread Cert.EncodeIdeal.nD Cert.EncodeIdeal.τ).loc Cert.EncodeIdeal.main_arg13) = m ((c.tc : Thread Cert.EncodeIdeal.nD Cert.EncodeIdeal.τ).loc Cert.EncodeIdeal.main_arg13)
      ∧ r.2.mem ((c.tc : Thread Cert.EncodeIdeal.nD Cert.EncodeIdeal.τ).loc Cert.EncodeIdeal.main_arg14) = m ((c.tc : Thread Cert.EncodeIdeal.nD Cert.EncodeIdeal.τ).loc Cert.EncodeIdeal.main_arg14)
      ∧ r.2.mem ((c.tc : Thread Cert.EncodeIdeal.nD Cert.EncodeIdeal.τ).loc Cert.EncodeIdeal.main_arg15) = m ((c.tc : Thread Cert.EncodeIdeal.nD Cert.EncodeIdeal.τ).loc Cert.EncodeIdeal.main_arg15)
      ∧ r.2.mem ((c.tc : Thread Cert.EncodeIdeal.nD Cert.EncodeIdeal.τ).loc Cert.EncodeIdeal.main_arg16) = m ((c.tc : Thread Cert.EncodeIdeal.nD Cert.EncodeIdeal.τ).loc Cert.EncodeIdeal.main_arg16))
      ∧ r.2.sem = fun _ => 0)

def quiescent_EncodeIdeal_pre_enc_sound [hEncodeIdeal : Cert.EncodeIdeal.Facts] [hPre_enc_sound : Cert.Pre_enc_sound.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal_enc_sound m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
      ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
      ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
      ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
      ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7)
      ∧ r.2.mem ((c.tc : Thread Cert.EncodeIdeal.nD Cert.EncodeIdeal.τ).loc Cert.EncodeIdeal.main_arg8) = m ((c.tc : Thread Cert.EncodeIdeal.nD Cert.EncodeIdeal.τ).loc Cert.EncodeIdeal.main_arg8)
      ∧ r.2.mem ((c.tc : Thread Cert.EncodeIdeal.nD Cert.EncodeIdeal.τ).loc Cert.EncodeIdeal.main_arg9) = m ((c.tc : Thread Cert.EncodeIdeal.nD Cert.EncodeIdeal.τ).loc Cert.EncodeIdeal.main_arg9)
      ∧ r.2.mem ((c.tc : Thread Cert.EncodeIdeal.nD Cert.EncodeIdeal.τ).loc Cert.EncodeIdeal.main_arg10) = m ((c.tc : Thread Cert.EncodeIdeal.nD Cert.EncodeIdeal.τ).loc Cert.EncodeIdeal.main_arg10)
      ∧ r.2.mem ((c.tc : Thread Cert.EncodeIdeal.nD Cert.EncodeIdeal.τ).loc Cert.EncodeIdeal.main_arg11) = m ((c.tc : Thread Cert.EncodeIdeal.nD Cert.EncodeIdeal.τ).loc Cert.EncodeIdeal.main_arg11)
      ∧ r.2.mem ((c.tc : Thread Cert.EncodeIdeal.nD Cert.EncodeIdeal.τ).loc Cert.EncodeIdeal.main_arg12) = m ((c.tc : Thread Cert.EncodeIdeal.nD Cert.EncodeIdeal.τ).loc Cert.EncodeIdeal.main_arg12)
      ∧ r.2.mem ((c.tc : Thread Cert.EncodeIdeal.nD Cert.EncodeIdeal.τ).loc Cert.EncodeIdeal.main_arg13) = m ((c.tc : Thread Cert.EncodeIdeal.nD Cert.EncodeIdeal.τ).loc Cert.EncodeIdeal.main_arg13)
      ∧ r.2.mem ((c.tc : Thread Cert.EncodeIdeal.nD Cert.EncodeIdeal.τ).loc Cert.EncodeIdeal.main_arg14) = m ((c.tc : Thread Cert.EncodeIdeal.nD Cert.EncodeIdeal.τ).loc Cert.EncodeIdeal.main_arg14)
      ∧ r.2.mem ((c.tc : Thread Cert.EncodeIdeal.nD Cert.EncodeIdeal.τ).loc Cert.EncodeIdeal.main_arg15) = m ((c.tc : Thread Cert.EncodeIdeal.nD Cert.EncodeIdeal.τ).loc Cert.EncodeIdeal.main_arg15)
      ∧ r.2.mem ((c.tc : Thread Cert.EncodeIdeal.nD Cert.EncodeIdeal.τ).loc Cert.EncodeIdeal.main_arg16) = m ((c.tc : Thread Cert.EncodeIdeal.nD Cert.EncodeIdeal.τ).loc Cert.EncodeIdeal.main_arg16))
      ∧ r.2.sem = fun _ => 0)

def quiescent_EncodeRefIdeal [hEncodeRefIdeal : Cert.EncodeRefIdeal.Facts] : Prop :=
  ∀ (m : (ℓ : Loc Cert.EncodeRefIdeal.nD Cert.EncodeRefIdeal.τ Cert.EncodeRefIdeal.sig) → Buf (Elt Ideal) ℓ) (g : Dev Cert.EncodeRefIdeal.nD → PrngReg), Pre_EncodeRefIdeal m →
    θ_run (Cert.EncodeRefIdeal.defs (F := Ideal)) (onTc (τ := Cert.EncodeRefIdeal.τ) (Cert.EncodeRefIdeal.main (F := Ideal))) ⟨m, fun _ => 0, g⟩ (fun r => (∀ c : Dev Cert.EncodeRefIdeal.nD,
      r.2.mem ((c.tc : Thread Cert.EncodeRefIdeal.nD Cert.EncodeRefIdeal.τ).loc Cert.EncodeRefIdeal.main_arg0) = m ((c.tc : Thread Cert.EncodeRefIdeal.nD Cert.EncodeRefIdeal.τ).loc Cert.EncodeRefIdeal.main_arg0)
      ∧ r.2.mem ((c.tc : Thread Cert.EncodeRefIdeal.nD Cert.EncodeRefIdeal.τ).loc Cert.EncodeRefIdeal.main_arg1) = m ((c.tc : Thread Cert.EncodeRefIdeal.nD Cert.EncodeRefIdeal.τ).loc Cert.EncodeRefIdeal.main_arg1)
      ∧ r.2.mem ((c.tc : Thread Cert.EncodeRefIdeal.nD Cert.EncodeRefIdeal.τ).loc Cert.EncodeRefIdeal.main_arg2) = m ((c.tc : Thread Cert.EncodeRefIdeal.nD Cert.EncodeRefIdeal.τ).loc Cert.EncodeRefIdeal.main_arg2)
      ∧ r.2.mem ((c.tc : Thread Cert.EncodeRefIdeal.nD Cert.EncodeRefIdeal.τ).loc Cert.EncodeRefIdeal.main_arg3) = m ((c.tc : Thread Cert.EncodeRefIdeal.nD Cert.EncodeRefIdeal.τ).loc Cert.EncodeRefIdeal.main_arg3)
      ∧ r.2.mem ((c.tc : Thread Cert.EncodeRefIdeal.nD Cert.EncodeRefIdeal.τ).loc Cert.EncodeRefIdeal.main_arg4) = m ((c.tc : Thread Cert.EncodeRefIdeal.nD Cert.EncodeRefIdeal.τ).loc Cert.EncodeRefIdeal.main_arg4)
      ∧ r.2.mem ((c.tc : Thread Cert.EncodeRefIdeal.nD Cert.EncodeRefIdeal.τ).loc Cert.EncodeRefIdeal.main_arg5) = m ((c.tc : Thread Cert.EncodeRefIdeal.nD Cert.EncodeRefIdeal.τ).loc Cert.EncodeRefIdeal.main_arg5)
      ∧ r.2.mem ((c.tc : Thread Cert.EncodeRefIdeal.nD Cert.EncodeRefIdeal.τ).loc Cert.EncodeRefIdeal.main_arg6) = m ((c.tc : Thread Cert.EncodeRefIdeal.nD Cert.EncodeRefIdeal.τ).loc Cert.EncodeRefIdeal.main_arg6)
      ∧ r.2.mem ((c.tc : Thread Cert.EncodeRefIdeal.nD Cert.EncodeRefIdeal.τ).loc Cert.EncodeRefIdeal.main_arg7) = m ((c.tc : Thread Cert.EncodeRefIdeal.nD Cert.EncodeRefIdeal.τ).loc Cert.EncodeRefIdeal.main_arg7)
      ∧ r.2.mem ((c.tc : Thread Cert.EncodeRefIdeal.nD Cert.EncodeRefIdeal.τ).loc Cert.EncodeRefIdeal.main_arg8) = m ((c.tc : Thread Cert.EncodeRefIdeal.nD Cert.EncodeRefIdeal.τ).loc Cert.EncodeRefIdeal.main_arg8)
      ∧ r.2.mem ((c.tc : Thread Cert.EncodeRefIdeal.nD Cert.EncodeRefIdeal.τ).loc Cert.EncodeRefIdeal.main_arg9) = m ((c.tc : Thread Cert.EncodeRefIdeal.nD Cert.EncodeRefIdeal.τ).loc Cert.EncodeRefIdeal.main_arg9)
      ∧ r.2.mem ((c.tc : Thread Cert.EncodeRefIdeal.nD Cert.EncodeRefIdeal.τ).loc Cert.EncodeRefIdeal.main_arg10) = m ((c.tc : Thread Cert.EncodeRefIdeal.nD Cert.EncodeRefIdeal.τ).loc Cert.EncodeRefIdeal.main_arg10)
      ∧ r.2.mem ((c.tc : Thread Cert.EncodeRefIdeal.nD Cert.EncodeRefIdeal.τ).loc Cert.EncodeRefIdeal.main_arg11) = m ((c.tc : Thread Cert.EncodeRefIdeal.nD Cert.EncodeRefIdeal.τ).loc Cert.EncodeRefIdeal.main_arg11)
      ∧ r.2.mem ((c.tc : Thread Cert.EncodeRefIdeal.nD Cert.EncodeRefIdeal.τ).loc Cert.EncodeRefIdeal.main_arg12) = m ((c.tc : Thread Cert.EncodeRefIdeal.nD Cert.EncodeRefIdeal.τ).loc Cert.EncodeRefIdeal.main_arg12)
      ∧ r.2.mem ((c.tc : Thread Cert.EncodeRefIdeal.nD Cert.EncodeRefIdeal.τ).loc Cert.EncodeRefIdeal.main_arg13) = m ((c.tc : Thread Cert.EncodeRefIdeal.nD Cert.EncodeRefIdeal.τ).loc Cert.EncodeRefIdeal.main_arg13)
      ∧ r.2.mem ((c.tc : Thread Cert.EncodeRefIdeal.nD Cert.EncodeRefIdeal.τ).loc Cert.EncodeRefIdeal.main_arg14) = m ((c.tc : Thread Cert.EncodeRefIdeal.nD Cert.EncodeRefIdeal.τ).loc Cert.EncodeRefIdeal.main_arg14)
      ∧ r.2.mem ((c.tc : Thread Cert.EncodeRefIdeal.nD Cert.EncodeRefIdeal.τ).loc Cert.EncodeRefIdeal.main_arg15) = m ((c.tc : Thread Cert.EncodeRefIdeal.nD Cert.EncodeRefIdeal.τ).loc Cert.EncodeRefIdeal.main_arg15)
      ∧ r.2.mem ((c.tc : Thread Cert.EncodeRefIdeal.nD Cert.EncodeRefIdeal.τ).loc Cert.EncodeRefIdeal.main_arg16) = m ((c.tc : Thread Cert.EncodeRefIdeal.nD Cert.EncodeRefIdeal.τ).loc Cert.EncodeRefIdeal.main_arg16))
      ∧ r.2.sem = fun _ => 0)

def quiescent_EncodeRefIdeal_pre_enc_sound [hEncodeRefIdeal : Cert.EncodeRefIdeal.Facts] [hPre_enc_sound : Cert.Pre_enc_sound.Facts] : Prop :=
  ∀ (m : (ℓ : Loc Cert.EncodeRefIdeal.nD Cert.EncodeRefIdeal.τ Cert.EncodeRefIdeal.sig) → Buf (Elt Ideal) ℓ) (g : Dev Cert.EncodeRefIdeal.nD → PrngReg), Pre_EncodeRefIdeal_enc_sound m →
    θ_run (Cert.EncodeRefIdeal.defs (F := Ideal)) (onTc (τ := Cert.EncodeRefIdeal.τ) (Cert.EncodeRefIdeal.main (F := Ideal))) ⟨m, fun _ => 0, g⟩ (fun r => (∀ c : Dev Cert.EncodeRefIdeal.nD,
      r.2.mem ((c.tc : Thread Cert.EncodeRefIdeal.nD Cert.EncodeRefIdeal.τ).loc Cert.EncodeRefIdeal.main_arg0) = m ((c.tc : Thread Cert.EncodeRefIdeal.nD Cert.EncodeRefIdeal.τ).loc Cert.EncodeRefIdeal.main_arg0)
      ∧ r.2.mem ((c.tc : Thread Cert.EncodeRefIdeal.nD Cert.EncodeRefIdeal.τ).loc Cert.EncodeRefIdeal.main_arg1) = m ((c.tc : Thread Cert.EncodeRefIdeal.nD Cert.EncodeRefIdeal.τ).loc Cert.EncodeRefIdeal.main_arg1)
      ∧ r.2.mem ((c.tc : Thread Cert.EncodeRefIdeal.nD Cert.EncodeRefIdeal.τ).loc Cert.EncodeRefIdeal.main_arg2) = m ((c.tc : Thread Cert.EncodeRefIdeal.nD Cert.EncodeRefIdeal.τ).loc Cert.EncodeRefIdeal.main_arg2)
      ∧ r.2.mem ((c.tc : Thread Cert.EncodeRefIdeal.nD Cert.EncodeRefIdeal.τ).loc Cert.EncodeRefIdeal.main_arg3) = m ((c.tc : Thread Cert.EncodeRefIdeal.nD Cert.EncodeRefIdeal.τ).loc Cert.EncodeRefIdeal.main_arg3)
      ∧ r.2.mem ((c.tc : Thread Cert.EncodeRefIdeal.nD Cert.EncodeRefIdeal.τ).loc Cert.EncodeRefIdeal.main_arg4) = m ((c.tc : Thread Cert.EncodeRefIdeal.nD Cert.EncodeRefIdeal.τ).loc Cert.EncodeRefIdeal.main_arg4)
      ∧ r.2.mem ((c.tc : Thread Cert.EncodeRefIdeal.nD Cert.EncodeRefIdeal.τ).loc Cert.EncodeRefIdeal.main_arg5) = m ((c.tc : Thread Cert.EncodeRefIdeal.nD Cert.EncodeRefIdeal.τ).loc Cert.EncodeRefIdeal.main_arg5)
      ∧ r.2.mem ((c.tc : Thread Cert.EncodeRefIdeal.nD Cert.EncodeRefIdeal.τ).loc Cert.EncodeRefIdeal.main_arg6) = m ((c.tc : Thread Cert.EncodeRefIdeal.nD Cert.EncodeRefIdeal.τ).loc Cert.EncodeRefIdeal.main_arg6)
      ∧ r.2.mem ((c.tc : Thread Cert.EncodeRefIdeal.nD Cert.EncodeRefIdeal.τ).loc Cert.EncodeRefIdeal.main_arg7) = m ((c.tc : Thread Cert.EncodeRefIdeal.nD Cert.EncodeRefIdeal.τ).loc Cert.EncodeRefIdeal.main_arg7)
      ∧ r.2.mem ((c.tc : Thread Cert.EncodeRefIdeal.nD Cert.EncodeRefIdeal.τ).loc Cert.EncodeRefIdeal.main_arg8) = m ((c.tc : Thread Cert.EncodeRefIdeal.nD Cert.EncodeRefIdeal.τ).loc Cert.EncodeRefIdeal.main_arg8)
      ∧ r.2.mem ((c.tc : Thread Cert.EncodeRefIdeal.nD Cert.EncodeRefIdeal.τ).loc Cert.EncodeRefIdeal.main_arg9) = m ((c.tc : Thread Cert.EncodeRefIdeal.nD Cert.EncodeRefIdeal.τ).loc Cert.EncodeRefIdeal.main_arg9)
      ∧ r.2.mem ((c.tc : Thread Cert.EncodeRefIdeal.nD Cert.EncodeRefIdeal.τ).loc Cert.EncodeRefIdeal.main_arg10) = m ((c.tc : Thread Cert.EncodeRefIdeal.nD Cert.EncodeRefIdeal.τ).loc Cert.EncodeRefIdeal.main_arg10)
      ∧ r.2.mem ((c.tc : Thread Cert.EncodeRefIdeal.nD Cert.EncodeRefIdeal.τ).loc Cert.EncodeRefIdeal.main_arg11) = m ((c.tc : Thread Cert.EncodeRefIdeal.nD Cert.EncodeRefIdeal.τ).loc Cert.EncodeRefIdeal.main_arg11)
      ∧ r.2.mem ((c.tc : Thread Cert.EncodeRefIdeal.nD Cert.EncodeRefIdeal.τ).loc Cert.EncodeRefIdeal.main_arg12) = m ((c.tc : Thread Cert.EncodeRefIdeal.nD Cert.EncodeRefIdeal.τ).loc Cert.EncodeRefIdeal.main_arg12)
      ∧ r.2.mem ((c.tc : Thread Cert.EncodeRefIdeal.nD Cert.EncodeRefIdeal.τ).loc Cert.EncodeRefIdeal.main_arg13) = m ((c.tc : Thread Cert.EncodeRefIdeal.nD Cert.EncodeRefIdeal.τ).loc Cert.EncodeRefIdeal.main_arg13)
      ∧ r.2.mem ((c.tc : Thread Cert.EncodeRefIdeal.nD Cert.EncodeRefIdeal.τ).loc Cert.EncodeRefIdeal.main_arg14) = m ((c.tc : Thread Cert.EncodeRefIdeal.nD Cert.EncodeRefIdeal.τ).loc Cert.EncodeRefIdeal.main_arg14)
      ∧ r.2.mem ((c.tc : Thread Cert.EncodeRefIdeal.nD Cert.EncodeRefIdeal.τ).loc Cert.EncodeRefIdeal.main_arg15) = m ((c.tc : Thread Cert.EncodeRefIdeal.nD Cert.EncodeRefIdeal.τ).loc Cert.EncodeRefIdeal.main_arg15)
      ∧ r.2.mem ((c.tc : Thread Cert.EncodeRefIdeal.nD Cert.EncodeRefIdeal.τ).loc Cert.EncodeRefIdeal.main_arg16) = m ((c.tc : Thread Cert.EncodeRefIdeal.nD Cert.EncodeRefIdeal.τ).loc Cert.EncodeRefIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Nearest_NearestIdeal : Prop :=
  True

def algebraic_NearestIdeal_NearestRefIdeal_pre_pos_sound [hNearestIdeal : Cert.NearestIdeal.Facts] [hNearestRefIdeal : Cert.NearestRefIdeal.Facts] [hPre_pos_sound : Cert.Pre_pos_sound.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestRefIdeal.nD Cert.NearestRefIdeal.τ Cert.NearestRefIdeal.sig) → Buf (Elt Ideal) ℓ) (g' : Dev Cert.NearestRefIdeal.nD → PrngReg), Pre_NearestIdeal_pos_sound m →
    (∀ c : Dev Cert.NearestIdeal.nD,
      m' ((c.tc : Thread Cert.NearestRefIdeal.nD Cert.NearestRefIdeal.τ).loc Cert.NearestRefIdeal.main_arg0) = m ((c.tc : Thread Cert.NearestIdeal.nD Cert.NearestIdeal.τ).loc Cert.NearestIdeal.main_arg0)
      ∧ m' ((c.tc : Thread Cert.NearestRefIdeal.nD Cert.NearestRefIdeal.τ).loc Cert.NearestRefIdeal.main_arg1) = m ((c.tc : Thread Cert.NearestIdeal.nD Cert.NearestIdeal.τ).loc Cert.NearestIdeal.main_arg1)
      ∧ m' ((c.tc : Thread Cert.NearestRefIdeal.nD Cert.NearestRefIdeal.τ).loc Cert.NearestRefIdeal.main_arg2) = m ((c.tc : Thread Cert.NearestIdeal.nD Cert.NearestIdeal.τ).loc Cert.NearestIdeal.main_arg2)
      ∧ m' ((c.tc : Thread Cert.NearestRefIdeal.nD Cert.NearestRefIdeal.τ).loc Cert.NearestRefIdeal.main_arg3) = m ((c.tc : Thread Cert.NearestIdeal.nD Cert.NearestIdeal.τ).loc Cert.NearestIdeal.main_arg3)) →
    ∃ (v0 : (c : Dev Cert.NearestIdeal.nD) → Buf (Elt Ideal) ((c.tc : Thread Cert.NearestIdeal.nD Cert.NearestIdeal.τ).loc Cert.NearestIdeal.main_v6_0)) (v1 : (c : Dev Cert.NearestIdeal.nD) → Buf (Elt Ideal) ((c.tc : Thread Cert.NearestIdeal.nD Cert.NearestIdeal.τ).loc Cert.NearestIdeal.main_v6_1)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v6_0) = v0 c
          ∧ r.2.mem ((c.tc : Thread Cert.NearestIdeal.nD Cert.NearestIdeal.τ).loc Cert.NearestIdeal.main_v6_1) = v1 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1)
          ∧ r.2.mem ((c.tc : Thread Cert.NearestIdeal.nD Cert.NearestIdeal.τ).loc Cert.NearestIdeal.main_arg2) = m ((c.tc : Thread Cert.NearestIdeal.nD Cert.NearestIdeal.τ).loc Cert.NearestIdeal.main_arg2)
          ∧ r.2.mem ((c.tc : Thread Cert.NearestIdeal.nD Cert.NearestIdeal.τ).loc Cert.NearestIdeal.main_arg3) = m ((c.tc : Thread Cert.NearestIdeal.nD Cert.NearestIdeal.τ).loc Cert.NearestIdeal.main_arg3))
      ∧ θ_run (Cert.NearestRefIdeal.defs (F := Ideal)) (onTc (τ := Cert.NearestRefIdeal.τ) (Cert.NearestRefIdeal.main (F := Ideal))) ⟨m', fun _ => 0, g'⟩ (fun r => ∀ c : Dev Cert.NearestRefIdeal.nD,
          r.2.mem ((c.tc : Thread Cert.NearestRefIdeal.nD Cert.NearestRefIdeal.τ).loc Cert.NearestRefIdeal.main_v20) = v0 c
          ∧ r.2.mem ((c.tc : Thread Cert.NearestRefIdeal.nD Cert.NearestRefIdeal.τ).loc Cert.NearestRefIdeal.main_v21) = v1 c
          ∧ r.2.mem ((c.tc : Thread Cert.NearestRefIdeal.nD Cert.NearestRefIdeal.τ).loc Cert.NearestRefIdeal.main_arg0) = m' ((c.tc : Thread Cert.NearestRefIdeal.nD Cert.NearestRefIdeal.τ).loc Cert.NearestRefIdeal.main_arg0)
          ∧ r.2.mem ((c.tc : Thread Cert.NearestRefIdeal.nD Cert.NearestRefIdeal.τ).loc Cert.NearestRefIdeal.main_arg1) = m' ((c.tc : Thread Cert.NearestRefIdeal.nD Cert.NearestRefIdeal.τ).loc Cert.NearestRefIdeal.main_arg1)
          ∧ r.2.mem ((c.tc : Thread Cert.NearestRefIdeal.nD Cert.NearestRefIdeal.τ).loc Cert.NearestRefIdeal.main_arg2) = m' ((c.tc : Thread Cert.NearestRefIdeal.nD Cert.NearestRefIdeal.τ).loc Cert.NearestRefIdeal.main_arg2)
          ∧ r.2.mem ((c.tc : Thread Cert.NearestRefIdeal.nD Cert.NearestRefIdeal.τ).loc Cert.NearestRefIdeal.main_arg3) = m' ((c.tc : Thread Cert.NearestRefIdeal.nD Cert.NearestRefIdeal.τ).loc Cert.NearestRefIdeal.main_arg3))

def preserves_Encode_EncodeIdeal : Prop :=
  True

def algebraic_EncodeIdeal_EncodeRefIdeal_pre_enc_sound [hEncodeIdeal : Cert.EncodeIdeal.Facts] [hEncodeRefIdeal : Cert.EncodeRefIdeal.Facts] [hPre_enc_sound : Cert.Pre_enc_sound.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.EncodeRefIdeal.nD Cert.EncodeRefIdeal.τ Cert.EncodeRefIdeal.sig) → Buf (Elt Ideal) ℓ) (g' : Dev Cert.EncodeRefIdeal.nD → PrngReg), Pre_EncodeIdeal_enc_sound m →
    (∀ c : Dev Cert.EncodeIdeal.nD,
      m' ((c.tc : Thread Cert.EncodeRefIdeal.nD Cert.EncodeRefIdeal.τ).loc Cert.EncodeRefIdeal.main_arg0) = m ((c.tc : Thread Cert.EncodeIdeal.nD Cert.EncodeIdeal.τ).loc Cert.EncodeIdeal.main_arg0)
      ∧ m' ((c.tc : Thread Cert.EncodeRefIdeal.nD Cert.EncodeRefIdeal.τ).loc Cert.EncodeRefIdeal.main_arg1) = m ((c.tc : Thread Cert.EncodeIdeal.nD Cert.EncodeIdeal.τ).loc Cert.EncodeIdeal.main_arg1)
      ∧ m' ((c.tc : Thread Cert.EncodeRefIdeal.nD Cert.EncodeRefIdeal.τ).loc Cert.EncodeRefIdeal.main_arg2) = m ((c.tc : Thread Cert.EncodeIdeal.nD Cert.EncodeIdeal.τ).loc Cert.EncodeIdeal.main_arg2)
      ∧ m' ((c.tc : Thread Cert.EncodeRefIdeal.nD Cert.EncodeRefIdeal.τ).loc Cert.EncodeRefIdeal.main_arg3) = m ((c.tc : Thread Cert.EncodeIdeal.nD Cert.EncodeIdeal.τ).loc Cert.EncodeIdeal.main_arg3)
      ∧ m' ((c.tc : Thread Cert.EncodeRefIdeal.nD Cert.EncodeRefIdeal.τ).loc Cert.EncodeRefIdeal.main_arg4) = m ((c.tc : Thread Cert.EncodeIdeal.nD Cert.EncodeIdeal.τ).loc Cert.EncodeIdeal.main_arg4)
      ∧ m' ((c.tc : Thread Cert.EncodeRefIdeal.nD Cert.EncodeRefIdeal.τ).loc Cert.EncodeRefIdeal.main_arg5) = m ((c.tc : Thread Cert.EncodeIdeal.nD Cert.EncodeIdeal.τ).loc Cert.EncodeIdeal.main_arg5)
      ∧ m' ((c.tc : Thread Cert.EncodeRefIdeal.nD Cert.EncodeRefIdeal.τ).loc Cert.EncodeRefIdeal.main_arg6) = m ((c.tc : Thread Cert.EncodeIdeal.nD Cert.EncodeIdeal.τ).loc Cert.EncodeIdeal.main_arg6)
      ∧ m' ((c.tc : Thread Cert.EncodeRefIdeal.nD Cert.EncodeRefIdeal.τ).loc Cert.EncodeRefIdeal.main_arg7) = m ((c.tc : Thread Cert.EncodeIdeal.nD Cert.EncodeIdeal.τ).loc Cert.EncodeIdeal.main_arg7)
      ∧ m' ((c.tc : Thread Cert.EncodeRefIdeal.nD Cert.EncodeRefIdeal.τ).loc Cert.EncodeRefIdeal.main_arg8) = m ((c.tc : Thread Cert.EncodeIdeal.nD Cert.EncodeIdeal.τ).loc Cert.EncodeIdeal.main_arg8)
      ∧ m' ((c.tc : Thread Cert.EncodeRefIdeal.nD Cert.EncodeRefIdeal.τ).loc Cert.EncodeRefIdeal.main_arg9) = m ((c.tc : Thread Cert.EncodeIdeal.nD Cert.EncodeIdeal.τ).loc Cert.EncodeIdeal.main_arg9)
      ∧ m' ((c.tc : Thread Cert.EncodeRefIdeal.nD Cert.EncodeRefIdeal.τ).loc Cert.EncodeRefIdeal.main_arg10) = m ((c.tc : Thread Cert.EncodeIdeal.nD Cert.EncodeIdeal.τ).loc Cert.EncodeIdeal.main_arg10)
      ∧ m' ((c.tc : Thread Cert.EncodeRefIdeal.nD Cert.EncodeRefIdeal.τ).loc Cert.EncodeRefIdeal.main_arg11) = m ((c.tc : Thread Cert.EncodeIdeal.nD Cert.EncodeIdeal.τ).loc Cert.EncodeIdeal.main_arg11)
      ∧ m' ((c.tc : Thread Cert.EncodeRefIdeal.nD Cert.EncodeRefIdeal.τ).loc Cert.EncodeRefIdeal.main_arg12) = m ((c.tc : Thread Cert.EncodeIdeal.nD Cert.EncodeIdeal.τ).loc Cert.EncodeIdeal.main_arg12)
      ∧ m' ((c.tc : Thread Cert.EncodeRefIdeal.nD Cert.EncodeRefIdeal.τ).loc Cert.EncodeRefIdeal.main_arg13) = m ((c.tc : Thread Cert.EncodeIdeal.nD Cert.EncodeIdeal.τ).loc Cert.EncodeIdeal.main_arg13)
      ∧ m' ((c.tc : Thread Cert.EncodeRefIdeal.nD Cert.EncodeRefIdeal.τ).loc Cert.EncodeRefIdeal.main_arg14) = m ((c.tc : Thread Cert.EncodeIdeal.nD Cert.EncodeIdeal.τ).loc Cert.EncodeIdeal.main_arg14)
      ∧ m' ((c.tc : Thread Cert.EncodeRefIdeal.nD Cert.EncodeRefIdeal.τ).loc Cert.EncodeRefIdeal.main_arg15) = m ((c.tc : Thread Cert.EncodeIdeal.nD Cert.EncodeIdeal.τ).loc Cert.EncodeIdeal.main_arg15)
      ∧ m' ((c.tc : Thread Cert.EncodeRefIdeal.nD Cert.EncodeRefIdeal.τ).loc Cert.EncodeRefIdeal.main_arg16) = m ((c.tc : Thread Cert.EncodeIdeal.nD Cert.EncodeIdeal.τ).loc Cert.EncodeIdeal.main_arg16)) →
    ∃ (v0 : (c : Dev Cert.EncodeIdeal.nD) → Buf (Elt Ideal) ((c.tc : Thread Cert.EncodeIdeal.nD Cert.EncodeIdeal.τ).loc Cert.EncodeIdeal.main_v25)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v25) = v0 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
          ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
          ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
          ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
          ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
          ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
          ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
          ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7)
          ∧ r.2.mem ((c.tc : Thread Cert.EncodeIdeal.nD Cert.EncodeIdeal.τ).loc Cert.EncodeIdeal.main_arg8) = m ((c.tc : Thread Cert.EncodeIdeal.nD Cert.EncodeIdeal.τ).loc Cert.EncodeIdeal.main_arg8)
          ∧ r.2.mem ((c.tc : Thread Cert.EncodeIdeal.nD Cert.EncodeIdeal.τ).loc Cert.EncodeIdeal.main_arg9) = m ((c.tc : Thread Cert.EncodeIdeal.nD Cert.EncodeIdeal.τ).loc Cert.EncodeIdeal.main_arg9)
          ∧ r.2.mem ((c.tc : Thread Cert.EncodeIdeal.nD Cert.EncodeIdeal.τ).loc Cert.EncodeIdeal.main_arg10) = m ((c.tc : Thread Cert.EncodeIdeal.nD Cert.EncodeIdeal.τ).loc Cert.EncodeIdeal.main_arg10)
          ∧ r.2.mem ((c.tc : Thread Cert.EncodeIdeal.nD Cert.EncodeIdeal.τ).loc Cert.EncodeIdeal.main_arg11) = m ((c.tc : Thread Cert.EncodeIdeal.nD Cert.EncodeIdeal.τ).loc Cert.EncodeIdeal.main_arg11)
          ∧ r.2.mem ((c.tc : Thread Cert.EncodeIdeal.nD Cert.EncodeIdeal.τ).loc Cert.EncodeIdeal.main_arg12) = m ((c.tc : Thread Cert.EncodeIdeal.nD Cert.EncodeIdeal.τ).loc Cert.EncodeIdeal.main_arg12)
          ∧ r.2.mem ((c.tc : Thread Cert.EncodeIdeal.nD Cert.EncodeIdeal.τ).loc Cert.EncodeIdeal.main_arg13) = m ((c.tc : Thread Cert.EncodeIdeal.nD Cert.EncodeIdeal.τ).loc Cert.EncodeIdeal.main_arg13)
          ∧ r.2.mem ((c.tc : Thread Cert.EncodeIdeal.nD Cert.EncodeIdeal.τ).loc Cert.EncodeIdeal.main_arg14) = m ((c.tc : Thread Cert.EncodeIdeal.nD Cert.EncodeIdeal.τ).loc Cert.EncodeIdeal.main_arg14)
          ∧ r.2.mem ((c.tc : Thread Cert.EncodeIdeal.nD Cert.EncodeIdeal.τ).loc Cert.EncodeIdeal.main_arg15) = m ((c.tc : Thread Cert.EncodeIdeal.nD Cert.EncodeIdeal.τ).loc Cert.EncodeIdeal.main_arg15)
          ∧ r.2.mem ((c.tc : Thread Cert.EncodeIdeal.nD Cert.EncodeIdeal.τ).loc Cert.EncodeIdeal.main_arg16) = m ((c.tc : Thread Cert.EncodeIdeal.nD Cert.EncodeIdeal.τ).loc Cert.EncodeIdeal.main_arg16))
      ∧ θ_run (Cert.EncodeRefIdeal.defs (F := Ideal)) (onTc (τ := Cert.EncodeRefIdeal.τ) (Cert.EncodeRefIdeal.main (F := Ideal))) ⟨m', fun _ => 0, g'⟩ (fun r => ∀ c : Dev Cert.EncodeRefIdeal.nD,
          r.2.mem ((c.tc : Thread Cert.EncodeRefIdeal.nD Cert.EncodeRefIdeal.τ).loc Cert.EncodeRefIdeal.main_v59) = v0 c
          ∧ r.2.mem ((c.tc : Thread Cert.EncodeRefIdeal.nD Cert.EncodeRefIdeal.τ).loc Cert.EncodeRefIdeal.main_arg0) = m' ((c.tc : Thread Cert.EncodeRefIdeal.nD Cert.EncodeRefIdeal.τ).loc Cert.EncodeRefIdeal.main_arg0)
          ∧ r.2.mem ((c.tc : Thread Cert.EncodeRefIdeal.nD Cert.EncodeRefIdeal.τ).loc Cert.EncodeRefIdeal.main_arg1) = m' ((c.tc : Thread Cert.EncodeRefIdeal.nD Cert.EncodeRefIdeal.τ).loc Cert.EncodeRefIdeal.main_arg1)
          ∧ r.2.mem ((c.tc : Thread Cert.EncodeRefIdeal.nD Cert.EncodeRefIdeal.τ).loc Cert.EncodeRefIdeal.main_arg2) = m' ((c.tc : Thread Cert.EncodeRefIdeal.nD Cert.EncodeRefIdeal.τ).loc Cert.EncodeRefIdeal.main_arg2)
          ∧ r.2.mem ((c.tc : Thread Cert.EncodeRefIdeal.nD Cert.EncodeRefIdeal.τ).loc Cert.EncodeRefIdeal.main_arg3) = m' ((c.tc : Thread Cert.EncodeRefIdeal.nD Cert.EncodeRefIdeal.τ).loc Cert.EncodeRefIdeal.main_arg3)
          ∧ r.2.mem ((c.tc : Thread Cert.EncodeRefIdeal.nD Cert.EncodeRefIdeal.τ).loc Cert.EncodeRefIdeal.main_arg4) = m' ((c.tc : Thread Cert.EncodeRefIdeal.nD Cert.EncodeRefIdeal.τ).loc Cert.EncodeRefIdeal.main_arg4)
          ∧ r.2.mem ((c.tc : Thread Cert.EncodeRefIdeal.nD Cert.EncodeRefIdeal.τ).loc Cert.EncodeRefIdeal.main_arg5) = m' ((c.tc : Thread Cert.EncodeRefIdeal.nD Cert.EncodeRefIdeal.τ).loc Cert.EncodeRefIdeal.main_arg5)
          ∧ r.2.mem ((c.tc : Thread Cert.EncodeRefIdeal.nD Cert.EncodeRefIdeal.τ).loc Cert.EncodeRefIdeal.main_arg6) = m' ((c.tc : Thread Cert.EncodeRefIdeal.nD Cert.EncodeRefIdeal.τ).loc Cert.EncodeRefIdeal.main_arg6)
          ∧ r.2.mem ((c.tc : Thread Cert.EncodeRefIdeal.nD Cert.EncodeRefIdeal.τ).loc Cert.EncodeRefIdeal.main_arg7) = m' ((c.tc : Thread Cert.EncodeRefIdeal.nD Cert.EncodeRefIdeal.τ).loc Cert.EncodeRefIdeal.main_arg7)
          ∧ r.2.mem ((c.tc : Thread Cert.EncodeRefIdeal.nD Cert.EncodeRefIdeal.τ).loc Cert.EncodeRefIdeal.main_arg8) = m' ((c.tc : Thread Cert.EncodeRefIdeal.nD Cert.EncodeRefIdeal.τ).loc Cert.EncodeRefIdeal.main_arg8)
          ∧ r.2.mem ((c.tc : Thread Cert.EncodeRefIdeal.nD Cert.EncodeRefIdeal.τ).loc Cert.EncodeRefIdeal.main_arg9) = m' ((c.tc : Thread Cert.EncodeRefIdeal.nD Cert.EncodeRefIdeal.τ).loc Cert.EncodeRefIdeal.main_arg9)
          ∧ r.2.mem ((c.tc : Thread Cert.EncodeRefIdeal.nD Cert.EncodeRefIdeal.τ).loc Cert.EncodeRefIdeal.main_arg10) = m' ((c.tc : Thread Cert.EncodeRefIdeal.nD Cert.EncodeRefIdeal.τ).loc Cert.EncodeRefIdeal.main_arg10)
          ∧ r.2.mem ((c.tc : Thread Cert.EncodeRefIdeal.nD Cert.EncodeRefIdeal.τ).loc Cert.EncodeRefIdeal.main_arg11) = m' ((c.tc : Thread Cert.EncodeRefIdeal.nD Cert.EncodeRefIdeal.τ).loc Cert.EncodeRefIdeal.main_arg11)
          ∧ r.2.mem ((c.tc : Thread Cert.EncodeRefIdeal.nD Cert.EncodeRefIdeal.τ).loc Cert.EncodeRefIdeal.main_arg12) = m' ((c.tc : Thread Cert.EncodeRefIdeal.nD Cert.EncodeRefIdeal.τ).loc Cert.EncodeRefIdeal.main_arg12)
          ∧ r.2.mem ((c.tc : Thread Cert.EncodeRefIdeal.nD Cert.EncodeRefIdeal.τ).loc Cert.EncodeRefIdeal.main_arg13) = m' ((c.tc : Thread Cert.EncodeRefIdeal.nD Cert.EncodeRefIdeal.τ).loc Cert.EncodeRefIdeal.main_arg13)
          ∧ r.2.mem ((c.tc : Thread Cert.EncodeRefIdeal.nD Cert.EncodeRefIdeal.τ).loc Cert.EncodeRefIdeal.main_arg14) = m' ((c.tc : Thread Cert.EncodeRefIdeal.nD Cert.EncodeRefIdeal.τ).loc Cert.EncodeRefIdeal.main_arg14)
          ∧ r.2.mem ((c.tc : Thread Cert.EncodeRefIdeal.nD Cert.EncodeRefIdeal.τ).loc Cert.EncodeRefIdeal.main_arg15) = m' ((c.tc : Thread Cert.EncodeRefIdeal.nD Cert.EncodeRefIdeal.τ).loc Cert.EncodeRefIdeal.main_arg15)
          ∧ r.2.mem ((c.tc : Thread Cert.EncodeRefIdeal.nD Cert.EncodeRefIdeal.τ).loc Cert.EncodeRefIdeal.main_arg16) = m' ((c.tc : Thread Cert.EncodeRefIdeal.nD Cert.EncodeRefIdeal.τ).loc Cert.EncodeRefIdeal.main_arg16))

def Claim : Prop :=
  ∃ (hKernel : Cert.Kernel.Facts) (hKernelIdeal : Cert.KernelIdeal.Facts) (hReferenceIdeal : Cert.ReferenceIdeal.Facts) (hReference : Cert.Reference.Facts) (hNearest : Cert.Nearest.Facts) (hNearestIdeal : Cert.NearestIdeal.Facts) (hNearestRefIdeal : Cert.NearestRefIdeal.Facts) (hEncode : Cert.Encode.Facts) (hEncodeIdeal : Cert.EncodeIdeal.Facts) (hEncodeRefIdeal : Cert.EncodeRefIdeal.Facts) (hPre_idx_in_rows : Cert.Pre_idx_in_rows.Facts) (hPre_pos_sound : Cert.Pre_pos_sound.Facts) (hPre_enc_sound : Cert.Pre_enc_sound.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal)
    ∧ quiescent_ReferenceIdeal_pre_idx_in_rows (hReferenceIdeal := hReferenceIdeal) (hPre_idx_in_rows := hPre_idx_in_rows)
    ∧ quiescent_Reference (hReference := hReference) (hPre_idx_in_rows := hPre_idx_in_rows)
    ∧ quiescent_Nearest (hNearest := hNearest)
    ∧ quiescent_NearestIdeal (hNearestIdeal := hNearestIdeal)
    ∧ quiescent_NearestIdeal_pre_pos_sound (hNearestIdeal := hNearestIdeal) (hPre_pos_sound := hPre_pos_sound)
    ∧ quiescent_NearestRefIdeal (hNearestRefIdeal := hNearestRefIdeal)
    ∧ quiescent_NearestRefIdeal_pre_pos_sound (hNearestRefIdeal := hNearestRefIdeal) (hPre_pos_sound := hPre_pos_sound)
    ∧ quiescent_Encode (hEncode := hEncode)
    ∧ quiescent_EncodeIdeal (hEncodeIdeal := hEncodeIdeal)
    ∧ quiescent_EncodeIdeal_pre_enc_sound (hEncodeIdeal := hEncodeIdeal) (hPre_enc_sound := hPre_enc_sound)
    ∧ quiescent_EncodeRefIdeal (hEncodeRefIdeal := hEncodeRefIdeal)
    ∧ quiescent_EncodeRefIdeal_pre_enc_sound (hEncodeRefIdeal := hEncodeRefIdeal) (hPre_enc_sound := hPre_enc_sound)
    ∧ preserves_Kernel_KernelIdeal
    ∧ algebraic_KernelIdeal_ReferenceIdeal (hKernelIdeal := hKernelIdeal) (hReferenceIdeal := hReferenceIdeal) (hPre_idx_in_rows := hPre_idx_in_rows)
    ∧ bitexact_Kernel_Reference (hKernel := hKernel) (hReference := hReference) (hPre_idx_in_rows := hPre_idx_in_rows)
    ∧ preserves_Nearest_NearestIdeal
    ∧ algebraic_NearestIdeal_NearestRefIdeal_pre_pos_sound (hNearestIdeal := hNearestIdeal) (hNearestRefIdeal := hNearestRefIdeal) (hPre_pos_sound := hPre_pos_sound)
    ∧ preserves_Encode_EncodeIdeal
    ∧ algebraic_EncodeIdeal_EncodeRefIdeal_pre_enc_sound (hEncodeIdeal := hEncodeIdeal) (hEncodeRefIdeal := hEncodeRefIdeal) (hPre_enc_sound := hPre_enc_sound)
-- ==== Pre_enc_sound.lean ====
abbrev S32768x128 : Shape := ⟨2, ![32768, 128]⟩
abbrev S1024x128 : Shape := ⟨2, ![1024, 128]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S256x512 : Shape := ⟨2, ![256, 512]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg14 : FVec F S512 .f32) (main_v48 : IVec S_ 1) (main_v50 : FVec F S128 .f32) : IVec S_ 1 :=
  let main_cst_19 : FVec F S_ .f32 := constant S_ .f32 0x00000000#32
  let main_v51 : FVec F S128 .f32 := broadcastInDim S128 ![] bcast_S_S128 main_cst_19
  let main_v52 : IVec S128 1 := cmpf .une main_v50 main_v51
  let main_c_20 : IVec S_ 1 := constantI S_ 1 1#1
  let main_v53 : IVec S_ 1 := (fun x v => Host.reduce IntOp.andi x v reducesTo_S128_S_d0 h_S_) main_v52 main_c_20
  let main_v54 : IVec S_ 1 := andi main_v48 main_v53
  let main_cst_21 : FVec F S_ .f32 := constant S_ .f32 0x3727C5AC#32
  let main_v55 : FVec F S512 .f32 := broadcastInDim S512 ![] bcast_S_S512 main_cst_21
  let main_v56 : FVec F S512 .f32 := addf main_arg14 main_v55
  let main_cst_22 : FVec F S_ .f32 := constant S_ .f32 0x00000000#32
  let main_v57 : FVec F S512 .f32 := broadcastInDim S512 ![] bcast_S_S512 main_cst_22
  let main_v58 : IVec S512 1 := cmpf .une main_v56 main_v57
  let main_c_23 : IVec S_ 1 := constantI S_ 1 1#1
  let main_v59 : IVec S_ 1 := (fun x v => Host.reduce IntOp.andi x v reducesTo_S512_S_d0 h_S_) main_v58 main_c_23
  let main_v60 : IVec S_ 1 := andi main_v54 main_v59
  main_v60

def fn_part2 {F : FTy → Type} [FloatOps F] (main_arg6 : FVec F S128 .f32) (main_arg8 : FVec F S256 .f32) (main_arg9 : FVec F S512x512 .f32) (main_arg11 : FVec F S512 .f32) (main_arg14 : FVec F S512 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_cst_18 : FVec F S_ .f32 := constant S_ .f32 0x3727C5AC#32
  let main_v49 : FVec F S128 .f32 := broadcastInDim S128 ![] bcast_S_S128 main_cst_18
  let main_v50 : FVec F S128 .f32 := addf main_arg6 main_v49
  fn_part3 (F := F) main_arg14 main_v48 main_v50

def fn_part1 {F : FTy → Type} [FloatOps F] (main_arg4 : FVec F S128 .f32) (main_arg5 : FVec F S128 .f32) (main_arg6 : FVec F S128 .f32) (main_arg7 : FVec F S256x128 .f32) (main_arg8 : FVec F S256 .f32) (main_arg9 : FVec F S512x512 .f32) (main_arg11 : FVec F S512 .f32) (main_arg14 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg6 main_arg8 main_arg9 main_arg11 main_arg14 main_v33

def fn {F : FTy → Type} [FloatOps F] (main_arg0 : FVec F S32768x128 .f32) (main_arg1 : FVec F S1024x128 .f32) (main_arg2 : FVec F S128 .f32) (main_arg3 : FVec F S128 .f32) (main_arg4 : FVec F S128 .f32) (main_arg5 : FVec F S128 .f32) (main_arg6 : FVec F S128 .f32) (main_arg7 : FVec F S256x128 .f32) (main_arg8 : FVec F S256 .f32) (main_arg9 : FVec F S512x512 .f32) (main_arg10 : FVec F S512 .f32) (main_arg11 : FVec F S512 .f32) (main_arg12 : FVec F S512 .f32) (main_arg13 : FVec F S512 .f32) (main_arg14 : FVec F S512 .f32) (main_arg15 : FVec F S256x512 .f32) (main_arg16 : FVec F S256 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg11 main_arg14 main_v13 main_v16
-- ==== Pre_idx_in_rows.lean ====
abbrev S1024x128 : Shape := ⟨2, ![1024, 128]⟩
abbrev S1024x32 : Shape := ⟨2, ![1024, 32]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel

variable [Facts]

def fn {F : FTy → Type} [FloatOps F] (main_arg0 : FVec F S1024x128 .f32) (main_arg1 : IVec S1024x32 32) : IVec S_ 1 :=
  let main_c : IVec S_ 32 := constantI S_ 32 0#32
  let main_v0 : IVec S1024x32 32 := broadcastInDim S1024x32 ![] bcast_S_S1024x32 main_c
  let main_v1 : IVec S1024x32 1 := cmpi .sge main_arg1 main_v0
  let main_c_0 : IVec S_ 32 := constantI S_ 32 1024#32
  let main_v2 : IVec S1024x32 32 := broadcastInDim S1024x32 ![] bcast_S_S1024x32 main_c_0
  let main_v3 : IVec S1024x32 1 := cmpi .slt main_arg1 main_v2
  let main_v4 : IVec S1024x32 1 := andi main_v1 main_v3
  let main_c_1 : IVec S_ 1 := constantI S_ 1 1#1
  let main_v5 : IVec S_ 1 := (fun x v => Host.reduce IntOp.andi x v reducesTo_S1024x32_S_d0_1 h_S_) main_v4 main_c_1
  main_v5
-- ==== Pre_pos_sound.lean ====
abbrev S1x1024x3 : Shape := ⟨3, ![1, 1024, 3]⟩
abbrev S128x3 : Shape := ⟨2, ![128, 3]⟩
abbrev S128 : Shape := ⟨1, ![128]⟩
abbrev S_ : Shape := ⟨0, ![]⟩

class Facts : Prop where
  bcast_S_S1x1024x3 : S_.BroadcastsInDim S1x1024x3 (![] : Fin 0 → Fin S1x1024x3.rank)
  reducesTo_S1x1024x3_S_d0_1_2 : S1x1024x3.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S1x1024x3 .f32) (main_arg1 : FVec F S128x3 .f32) (main_arg2 : FVec F S128 .f32) (main_arg3 : FVec F S128 .f32) : IVec S_ 1 :=
  let main_v0 : FVec F S1x1024x3 .f32 := Host.absf main_arg0
  let main_cst : FVec F S_ .f32 := constant S_ .f32 0x7F800000#32
  let main_v1 : FVec F S1x1024x3 .f32 := broadcastInDim S1x1024x3 ![] bcast_S_S1x1024x3 main_cst
  let main_v2 : IVec S1x1024x3 1 := cmpf .olt main_v0 main_v1
  let main_c : IVec S_ 1 := constantI S_ 1 1#1
  let main_v3 : IVec S_ 1 := (fun x v => Host.reduce IntOp.andi x v reducesTo_S1x1024x3_S_d0_1_2 h_S_) main_v2 main_c
  let main_cst_0 : FVec F S_ .f32 := constant S_ .f32 0x3727C5AC#32
  let main_v4 : FVec F S128 .f32 := broadcastInDim S128 ![] bcast_S_S128 main_cst_0
  let main_v5 : FVec F S128 .f32 := addf main_arg3 main_v4
  let main_cst_1 : FVec F S_ .f32 := constant S_ .f32 0x00000000#32
  let main_v6 : FVec F S128 .f32 := broadcastInDim S128 ![] bcast_S_S128 main_cst_1
  let main_v7 : IVec S128 1 := cmpf .une main_v5 main_v6
  let main_c_2 : IVec S_ 1 := constantI S_ 1 1#1
  let main_v8 : IVec S_ 1 := (fun x v => Host.reduce IntOp.andi x v reducesTo_S128_S_d0 h_S_) main_v7 main_c_2
  let main_v9 : IVec S_ 1 := andi main_v3 main_v8
  main_v9
-- ==== Kernel.lean ====
abbrev S1024x128 : Shape := ⟨2, ![1024, 128]⟩
abbrev S1024x32 : Shape := ⟨2, ![1024, 32]⟩
abbrev S32768x128 : Shape := ⟨2, ![32768, 128]⟩
abbrev S2x4x32 : Shape := ⟨3, ![2, 4, 32]⟩
abbrev S2 : Shape := ⟨1, ![2]⟩
abbrev S2x128x128 : Shape := ⟨3, ![2, 128, 128]⟩
abbrev S1x4x32 : Shape := ⟨3, ![1, 4, 32]⟩
abbrev S4x32 : Shape := ⟨2, ![4, 32]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S32x128 : Shape := ⟨2, ![32, 128]⟩
abbrev S1x32 : Shape := ⟨2, ![1, 32]⟩
abbrev S32 : Shape := ⟨1, ![32]⟩

abbrev nBuf : Table → Nat
  | .hbm => 3
  | .local .scVector .vmem => 2
  | _ => 0

abbrev bufTy : (tb : Table) → Fin (nBuf tb) → BufTy
  | .hbm, ⟨0, _⟩ => ⟨S1024x128, .f32⟩
  | .hbm, ⟨1, _⟩ => ⟨S1024x32, .i32⟩
  | .hbm, ⟨2, _⟩ => ⟨S32768x128, .f32⟩
  | .local .scVector .vmem, ⟨0, _⟩ => ⟨S2x4x32, .i32⟩
  | .local .scVector .vmem, ⟨1, _⟩ => ⟨S2x128x128, .f32⟩
  | _, _ => ⟨S1024x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c4_i32_r0 : BitVec 32 := 4#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c4_i32_r0 v7_r0
  let c0_i32_16_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v144_r0 : BitVec 32 := Scalar.remui arg6_r0 c2_i32_100_r0
  let c0_i32_102_r0 : BitVec 32 := 0#32
  let c0_i32_103_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_60_r0 : BitVec 1 := 1#1
  let c1_i32_59_r0 : BitVec 32 := 1#32
  let v72_r0 : BitVec 32 := Scalar.addi arg10_r0 c1_i32_59_r0
  let v73_r0 : BitVec 32 := Scalar.select true_60_r0 v72_r0 arg10_r0
  let c8_i32_61_r0 : BitVec 32 := 8#32
  let v74_r0 : BitVec 1 := Scalar.cmpi .eq v73_r0 c8_i32_61_r0
  let c0_i32_62_r0 : BitVec 32 := 0#32
  let v75_r0 : BitVec 32 := Scalar.select v74_r0 c0_i32_62_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_67_r0 : BitVec 32 := 7#32
  let v83_r0 : BitVec 1 := Scalar.cmpi .sge arg5_r0 c7_i32_67_r0
  let true_68_r0 : BitVec 1 := 1#1
  let v84_r0 : BitVec 1 := Scalar.xori v83_r0 true_68_r0
  let v85_r0 : BitVec 1 := Scalar.andi v82_r0 v84_r0
  let true_69_r0 : BitVec 1 := 1#1
  let v86_r0 : BitVec 1 := Scalar.andi v85_r0 true_69_r0
  let v87_r0 : BitVec 32 := Scalar.extui v86_r0
  let c0_i32_70_r0 : BitVec 32 := 0#32
  let v88_r0 : BitVec 1 := Scalar.cmpi .ne v87_r0 c0_i32_70_r0
  v88_r0

def k0_off5 (i : grid0.Coords) (arg10_r0 : BitVec 32) : Fin 2 → Nat :=
  let c4_i32_101_r0 : BitVec 32 := 4#32
  let true_60_r0 : BitVec 1 := 1#1
  let c1_i32_59_r0 : BitVec 32 := 1#32
  let v72_r0 : BitVec 32 := Scalar.addi arg10_r0 c1_i32_59_r0
  let v73_r0 : BitVec 32 := Scalar.select true_60_r0 v72_r0 arg10_r0
  let c8_i32_61_r0 : BitVec 32 := 8#32
  let v74_r0 : BitVec 1 := Scalar.cmpi .eq v73_r0 c8_i32_61_r0
  let c0_i32_62_r0 : BitVec 32 := 0#32
  let v75_r0 : BitVec 32 := Scalar.select v74_r0 c0_i32_62_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c4_i32_101_r0 v76_r0
  let c0_i32_104_r0 : BitVec 32 := 0#32
  ![v145_r0.toNat, 0]
def k0_off6 (arg6_r0 : BitVec 32) : Fin 1 → Nat :=
  let c2_i32_100_r0 : BitVec 32 := 2#32
  let v144_r0 : BitVec 32 := Scalar.remui arg6_r0 c2_i32_100_r0
  ![v144_r0.toNat]
def k0_off7 (arg7_r0 : BitVec 32) : Fin 3 → Nat :=
  let c2_i32_101_r0 : BitVec 32 := 2#32
  let v145_r0 : BitVec 32 := Scalar.remui arg7_r0 c2_i32_101_r0
  let c0_i32_102_r0 : BitVec 32 := 0#32
  let c0_i32_103_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_56_r0 : BitVec 1 := 1#1
  let c1_i32_55_r0 : BitVec 32 := 1#32
  let v67_r0 : BitVec 32 := Scalar.subi arg10_r0 c1_i32_55_r0
  let v68_r0 : BitVec 32 := Scalar.select true_56_r0 v67_r0 arg10_r0
  let c_m1_i32_57_r0 : BitVec 32 := 4294967295#32
  let v69_r0 : BitVec 1 := Scalar.cmpi .eq v68_r0 c_m1_i32_57_r0
  let c7_i32_58_r0 : BitVec 32 := 7#32
  let v70_r0 : BitVec 32 := Scalar.select v69_r0 c7_i32_58_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_53_r0 : BitVec 32 := 0#32
  let v64_r0 : BitVec 1 := Scalar.cmpi .eq arg5_r0 c0_i32_53_r0
  let v97_r0 : BitVec 1 := Scalar.ori v96_r0 v64_r0
  let c0_i32_75_r0 : BitVec 32 := 0#32
  let v98_r0 : BitVec 1 := Scalar.cmpi .sge arg5_r0 c0_i32_75_r0
  let v99_r0 : BitVec 1 := Scalar.andi v97_r0 v98_r0
  let v100_r0 : BitVec 32 := Scalar.extui v99_r0
  let c0_i32_76_r0 : BitVec 32 := 0#32
  let v101_r0 : BitVec 1 := Scalar.cmpi .ne v100_r0 c0_i32_76_r0
  v101_r0

def k0_off8 (i : grid0.Coords) (arg10_r0 : BitVec 32) : Fin 2 → Nat :=
  let c4_i32_100_r0 : BitVec 32 := 4#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c4_i32_100_r0 v66_r0
  let c0_i32_104_r0 : BitVec 32 := 0#32
  ![v144_r0.toNat, 0]
def k0_off9 (arg7_r0 : BitVec 32) : Fin 1 → Nat :=
  let c2_i32_101_r0 : BitVec 32 := 2#32
  let v145_r0 : BitVec 32 := Scalar.remui arg7_r0 c2_i32_101_r0
  ![v145_r0.toNat]
def k0_off10 (arg8_r0 : BitVec 32) : Fin 3 → Nat :=
  let c2_i32_80_r0 : BitVec 32 := 2#32
  let v109_r0 : BitVec 32 := Scalar.remui arg8_r0 c2_i32_80_r0
  let c0_i32_100_r1 : BitVec 32 := 0#32
  let c0_i32_101_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_79_r0 : BitVec 32 := 2#32
  let v108_r0 : BitVec 32 := Scalar.remui arg7_r0 c2_i32_79_r0
  let c0_i32_104_r1 : BitVec 32 := 0#32
  let c0_i32_105_r1 : BitVec 32 := 0#32
  ![v108_r0.toNat, 0, 0]

def k0_chk3 (arg7_r0 : BitVec 32) : Prop :=
  (∀ a, (k0_off11 arg7_r0) a + S1x4x32.size a ≤ S2x4x32.size a)
theorem k0_off11_inb : ∀ (arg7_r0 : BitVec 32) (k0_hw3 : k0_chk3 arg7_r0), ∀ a, (k0_off11 arg7_r0) a + S1x4x32.size a ≤ S2x4x32.size a := fun arg7_r0 k0_hw3 => k0_hw3

def k0_off12 (arg8_r0 : BitVec 32) : Fin 3 → Nat :=
  let c2_i32_100_r0 : BitVec 32 := 2#32
  let v144_r0 : BitVec 32 := Scalar.remui arg8_r0 c2_i32_100_r0
  let c0_i32_102_r0 : BitVec 32 := 0#32
  let c0_i32_103_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_60_r0 : BitVec 1 := 1#1
  let c1_i32_59_r0 : BitVec 32 := 1#32
  let v72_r0 : BitVec 32 := Scalar.addi arg10_r0 c1_i32_59_r0
  let v73_r0 : BitVec 32 := Scalar.select true_60_r0 v72_r0 arg10_r0
  let c8_i32_61_r0 : BitVec 32 := 8#32
  let v74_r0 : BitVec 1 := Scalar.cmpi .eq v73_r0 c8_i32_61_r0
  let c0_i32_62_r0 : BitVec 32 := 0#32
  let v75_r0 : BitVec 32 := Scalar.select v74_r0 c0_i32_62_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_54_r0 : BitVec 32 := 7#32
  let v65_r0 : BitVec 1 := Scalar.cmpi .eq arg5_r0 c7_i32_54_r0
  let v116_r0 : BitVec 1 := Scalar.ori v115_r0 v65_r0
  let v117_r0 : BitVec 32 := Scalar.extui v116_r0
  let c0_i32_85_r0 : BitVec 32 := 0#32
  let v118_r0 : BitVec 1 := Scalar.cmpi .ne v117_r0 c0_i32_85_r0
  v118_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_101_r0 v66_r0
  let c0_i32_104_r0 : BitVec 32 := 0#32
  ![v145_r0.toNat, 0]
def k0_off14 (arg8_r0 : BitVec 32) : Fin 1 → Nat :=
  let c2_i32_100_r0 : BitVec 32 := 2#32
  let v144_r0 : BitVec 32 := Scalar.remui arg8_r0 c2_i32_100_r0
  ![v144_r0.toNat]
def k0_off15 (arg9_r0 : BitVec 32) : Fin 3 → Nat :=
  let c2_i32_100_r0 : BitVec 32 := 2#32
  let v144_r0 : BitVec 32 := Scalar.remui arg9_r0 c2_i32_100_r0
  let c0_i32_102_r0 : BitVec 32 := 0#32
  let c0_i32_103_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_56_r0 : BitVec 1 := 1#1
  let c1_i32_55_r0 : BitVec 32 := 1#32
  let v67_r0 : BitVec 32 := Scalar.subi arg10_r0 c1_i32_55_r0
  let v68_r0 : BitVec 32 := Scalar.select true_56_r0 v67_r0 arg10_r0
  let c_m1_i32_57_r0 : BitVec 32 := 4294967295#32
  let v69_r0 : BitVec 1 := Scalar.cmpi .eq v68_r0 c_m1_i32_57_r0
  let c7_i32_58_r0 : BitVec 32 := 7#32
  let v70_r0 : BitVec 32 := Scalar.select v69_r0 c7_i32_58_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_53_r0 : BitVec 32 := 0#32
  let v64_r0 : BitVec 1 := Scalar.cmpi .eq arg5_r0 c0_i32_53_r0
  let true_91_r0 : BitVec 1 := 1#1
  let v129_r0 : BitVec 1 := Scalar.xori v64_r0 true_91_r0
  let v130_r0 : BitVec 1 := Scalar.andi v128_r0 v129_r0
  let v131_r0 : BitVec 32 := Scalar.extui v130_r0
  let c0_i32_92_r0 : BitVec 32 := 0#32
  let v132_r0 : BitVec 1 := Scalar.cmpi .ne v131_r0 c0_i32_92_r0
  v132_r0

def k0_off16 (i : grid0.Coords) (arg10_r0 : BitVec 32) : Fin 2 → Nat :=
  let c128_i32_101_r0 : BitVec 32 := 128#32
  let true_56_r0 : BitVec 1 := 1#1
  let c1_i32_55_r0 : BitVec 32 := 1#32
  let v67_r0 : BitVec 32 := Scalar.subi arg10_r0 c1_i32_55_r0
  let v68_r0 : BitVec 32 := Scalar.select true_56_r0 v67_r0 arg10_r0
  let c_m1_i32_57_r0 : BitVec 32 := 4294967295#32
  let v69_r0 : BitVec 1 := Scalar.cmpi .eq v68_r0 c_m1_i32_57_r0
  let c7_i32_58_r0 : BitVec 32 := 7#32
  let v70_r0 : BitVec 32 := Scalar.select v69_r0 c7_i32_58_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_101_r0 v71_r0
  let c0_i32_104_r0 : BitVec 32 := 0#32
  ![v145_r0.toNat, 0]
def k0_off17 (arg9_r0 : BitVec 32) : Fin 1 → Nat :=
  let c2_i32_100_r0 : BitVec 32 := 2#32
  let v144_r0 : BitVec 32 := Scalar.remui arg9_r0 c2_i32_100_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x4x32.size a ≤ S2x4x32.size a) ∧
  (∀ (k0_h1 : k0_cond1 i k0_t1 arg10_r0 = 1#1), ∀ a, (k0_off5 i arg10_r0) a + S4x32.size a ≤ S1024x32.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x4x32.size a ≤ S2x4x32.size a) ∧
  (∀ (k0_h2 : k0_cond2 i k0_t1 arg10_r0 = 1#1), ∀ a, (k0_off8 i arg10_r0) a + S4x32.size a ≤ S1024x32.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S32768x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S32768x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x4x32.size a ≤ S2x4x32.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S4x32.size a ≤ S1024x32.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x4x32.size a ≤ S2x4x32.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S4x32.size a ≤ S1024x32.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S32768x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S32768x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_47_r0 : BitVec 32 := 0#32
  let c0_i32_48_r0 : BitVec 32 := 0#32
  ![v54_r0.toNat, 0, 0]

def k0_off19 (i : grid0.Coords) (v33_4_r0 : BitVec 32) : Fin 2 → Nat :=
  let c128_i32_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_r0 v38_r0
  let c0_i32_49_r0 : BitVec 32 := 0#32
  ![v55_r0.toNat, 0]

def k0_chk5 (i : grid0.Coords) (v33_4_r0 : BitVec 32) : Prop :=
  (∀ a, (k0_off19 i v33_4_r0) a + S128x128.size a ≤ S32768x128.size a)
theorem k0_off19_inb : ∀ (i : grid0.Coords) (v33_4_r0 : BitVec 32) (k0_hw5 : k0_chk5 i v33_4_r0), ∀ a, (k0_off19 i v33_4_r0) a + S128x128.size a ≤ S32768x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_51_r0 : BitVec 32 := 0#32
  let c0_i32_52_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S1024x128 : Shape := ⟨2, ![1024, 128]⟩
abbrev S1024x32 : Shape := ⟨2, ![1024, 32]⟩
abbrev S_ : Shape := ⟨0, ![]⟩
abbrev S1024x32x1 : Shape := ⟨3, ![1024, 32, 1]⟩
abbrev S1024x32x128 : Shape := ⟨3, ![1024, 32, 128]⟩
abbrev S32768x128 : Shape := ⟨2, ![32768, 128]⟩

abbrev nBuf : Space → Nat
  | .hbm => 12
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x32, .i32⟩
  | .hbm, ⟨2, _⟩ => ⟨S_, .i32⟩
  | .hbm, ⟨3, _⟩ => ⟨S1024x32, .i32⟩
  | .hbm, ⟨4, _⟩ => ⟨S1024x32, .i1⟩
  | .hbm, ⟨5, _⟩ => ⟨S_, .i32⟩
  | .hbm, ⟨6, _⟩ => ⟨S1024x32, .i32⟩
  | .hbm, ⟨7, _⟩ => ⟨S1024x32, .i32⟩
  | .hbm, ⟨8, _⟩ => ⟨S1024x32, .i32⟩
  | .hbm, ⟨9, _⟩ => ⟨S1024x32x1, .i32⟩
  | .hbm, ⟨10, _⟩ => ⟨S1024x32x128, .f32⟩
  | .hbm, ⟨11, _⟩ => ⟨S32768x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Nearest.lean ====
abbrev S1x1024x3 : Shape := ⟨3, ![1, 1024, 3]⟩
abbrev S128x3 : Shape := ⟨2, ![128, 3]⟩
abbrev S128 : Shape := ⟨1, ![128]⟩
abbrev S1x3x1024 : Shape := ⟨3, ![1, 3, 1024]⟩
abbrev S_ : Shape := ⟨0, ![]⟩
abbrev S1x128 : Shape := ⟨2, ![1, 128]⟩
abbrev S1024x32 : Shape := ⟨2, ![1024, 32]⟩
abbrev S1024x128 : Shape := ⟨2, ![1024, 128]⟩
abbrev S1x256x3 : Shape := ⟨3, ![1, 256, 3]⟩
abbrev S256x32 : Shape := ⟨2, ![256, 32]⟩
abbrev S256x128 : Shape := ⟨2, ![256, 128]⟩
abbrev S256x3 : Shape := ⟨2, ![256, 3]⟩
abbrev S3x1024 : Shape := ⟨2, ![3, 1024]⟩
abbrev S256x1 : Shape := ⟨2, ![256, 1]⟩
abbrev S1x1024 : Shape := ⟨2, ![1, 1024]⟩
abbrev S256x1024 : Shape := ⟨2, ![256, 1024]⟩
abbrev S256 : Shape := ⟨1, ![256]⟩

abbrev nBuf : Space → Nat
  | .hbm => 13
  | .vmem => 9
  | .smem => 0
  | _ => 0

abbrev bufTy : (tb : Table) → Fin (tcTables nBuf tb) → BufTy
  | .hbm, ⟨0, _⟩ => ⟨S1x1024x3, .f32⟩
  | .hbm, ⟨1, _⟩ => ⟨S128x3, .f32⟩
  | .hbm, ⟨2, _⟩ => ⟨S128, .f32⟩
  | .hbm, ⟨3, _⟩ => ⟨S128, .f32⟩
  | .hbm, ⟨4, _⟩ => ⟨S1x3x1024, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S1024x32, .i32⟩
  | .hbm, ⟨12, _⟩ => ⟨S1024x128, .f32⟩
  | .local _ .vmem, ⟨0, _⟩ => ⟨S1x256x3, .f32⟩
  | .local _ .vmem, ⟨1, _⟩ => ⟨S1x256x3, .f32⟩
  | .local _ .vmem, ⟨2, _⟩ => ⟨S1x3x1024, .f32⟩
  | .local _ .vmem, ⟨3, _⟩ => ⟨S128x3, .f32⟩
  | .local _ .vmem, ⟨4, _⟩ => ⟨S1x128, .f32⟩
  | .local _ .vmem, ⟨5, _⟩ => ⟨S256x32, .i32⟩
  | .local _ .vmem, ⟨6, _⟩ => ⟨S256x32, .i32⟩
  | .local _ .vmem, ⟨7, _⟩ => ⟨S256x128, .f32⟩
  | .local _ .vmem, ⟨8, _⟩ => ⟨S256x128, .f32⟩
  | _, _ => ⟨S1x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NearestRefIdeal.lean ====
abbrev S1x1024x3 : Shape := ⟨3, ![1, 1024, 3]⟩
abbrev S128x3 : Shape := ⟨2, ![128, 3]⟩
abbrev S128 : Shape := ⟨1, ![128]⟩
abbrev S1x1024x1x3 : Shape := ⟨4, ![1, 1024, 1, 3]⟩
abbrev S1x1x1024x3 : Shape := ⟨4, ![1, 1, 1024, 3]⟩
abbrev S1x1024x1024x3 : Shape := ⟨4, ![1, 1024, 1024, 3]⟩
abbrev S_ : Shape := ⟨0, ![]⟩
abbrev S1x1024x1024 : Shape := ⟨3, ![1, 1024, 1024]⟩
abbrev S1x1024x32 : Shape := ⟨3, ![1, 1024, 32]⟩
abbrev S3x128 : Shape := ⟨2, ![3, 128]⟩
abbrev S1x1024x128 : Shape := ⟨3, ![1, 1024, 128]⟩
abbrev S1x1x128 : Shape := ⟨3, ![1, 1, 128]⟩
abbrev S1024x32 : Shape := ⟨2, ![1024, 32]⟩
abbrev S1024x128 : Shape := ⟨2, ![1024, 128]⟩

abbrev nBuf : Space → Nat
  | .hbm => 30
  | .vmem => 0
  | .smem => 0
  | _ => 0

abbrev bufTy : (tb : Table) → Fin (tcTables nBuf tb) → BufTy
  | .hbm, ⟨0, _⟩ => ⟨S1x1024x3, .f32⟩
  | .hbm, ⟨1, _⟩ => ⟨S128x3, .f32⟩
  | .hbm, ⟨2, _⟩ => ⟨S128, .f32⟩
  | .hbm, ⟨3, _⟩ => ⟨S128, .f32⟩
  | .hbm, ⟨4, _⟩ => ⟨S1x1024x1x3, .f32⟩
  | .hbm, ⟨5, _⟩ => ⟨S1x1x1024x3, .f32⟩
  | .hbm, ⟨6, _⟩ => ⟨S1x1024x1024x3, .f32⟩
  | .hbm, ⟨7, _⟩ => ⟨S1x1024x1024x3, .f32⟩
  | .hbm, ⟨8, _⟩ => ⟨S1x1024x1024x3, .f32⟩
  | .hbm, ⟨9, _⟩ => ⟨S1x1024x1024x3, .f32⟩
  | .hbm, ⟨10, _⟩ => ⟨S_, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1x1024x32, .f32⟩
  | .hbm, ⟨15, _⟩ => ⟨S1x1024x32, .i32⟩
  | .hbm, ⟨16, _⟩ => ⟨S3x128, .f32⟩
  | .hbm, ⟨17, _⟩ => ⟨S1x1024x128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x1x128, .f32⟩
  | .hbm, ⟨23, _⟩ => ⟨S1x1024x128, .f32⟩
  | .hbm, ⟨24, _⟩ => ⟨S1x1024x128, .f32⟩
  | .hbm, ⟨25, _⟩ => ⟨S1x1x128, .f32⟩
  | .hbm, ⟨26, _⟩ => ⟨S1x1024x128, .f32⟩
  | .hbm, ⟨27, _⟩ => ⟨S1x1024x128, .f32⟩
  | .hbm, ⟨28, _⟩ => ⟨S1024x32, .i32⟩
  | .hbm, ⟨29, _⟩ => ⟨S1024x128, .f32⟩
  | _, _ => ⟨S1x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_values : Ref sig .tc := ⟨.hbm, 14, rfl⟩
abbrev main_indices : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Encode.lean ====
abbrev S32768x128 : Shape := ⟨2, ![32768, 128]⟩
abbrev S1024x128 : Shape := ⟨2, ![1024, 128]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S256x512 : Shape := ⟨2, ![256, 512]⟩
abbrev S_ : Shape := ⟨0, ![]⟩
abbrev S1x128 : Shape := ⟨2, ![1, 128]⟩
abbrev S512x1 : Shape := ⟨2, ![512, 1]⟩
abbrev S1x512 : Shape := ⟨2, ![1, 512]⟩
abbrev S512x256 : Shape := ⟨2, ![512, 256]⟩
abbrev S1x256 : Shape := ⟨2, ![1, 256]⟩
abbrev S1x256x1024 : Shape := ⟨3, ![1, 256, 1024]⟩
abbrev S4096x128 : Shape := ⟨2, ![4096, 128]⟩
abbrev S128x128 : Shape := ⟨2, ![128, 128]⟩
abbrev S1x256x128 : Shape := ⟨3, ![1, 256, 128]⟩
abbrev S128x32x128 : Shape := ⟨3, ![128, 32, 128]⟩
abbrev S128x1x128 : Shape := ⟨3, ![128, 1, 128]⟩
abbrev S4096x256 : Shape := ⟨2, ![4096, 256]⟩
abbrev S128x32x256 : Shape := ⟨3, ![128, 32, 256]⟩
abbrev S128x256 : Shape := ⟨2, ![128, 256]⟩
abbrev S128x512 : Shape := ⟨2, ![128, 512]⟩
abbrev S128x1x512 : Shape := ⟨3, ![128, 1, 512]⟩
abbrev S128x32x512 : Shape := ⟨3, ![128, 32, 512]⟩
abbrev S4096x512 : Shape := ⟨2, ![4096, 512]⟩

abbrev nBuf : Space → Nat
  | .hbm => 45
  | .vmem => 14
  | .smem => 0
  | _ => 0

abbrev bufTy : (tb : Table) → Fin (tcTables nBuf tb) → BufTy
  | .hbm, ⟨0, _⟩ => ⟨S32768x128, .f32⟩
  | .hbm, ⟨1, _⟩ => ⟨S1024x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S256, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S256x512, .f32⟩
  | .hbm, ⟨16, _⟩ => ⟨S256, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S512x1, .f32⟩
  | .hbm, ⟨34, _⟩ => ⟨S512x512, .f32⟩
  | .hbm, ⟨35, _⟩ => ⟨S512x512, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S1x512, .f32⟩
  | .hbm, ⟨40, _⟩ => ⟨S512x256, .f32⟩
  | .hbm, ⟨41, _⟩ => ⟨S512x256, .f32⟩
  | .hbm, ⟨42, _⟩ => ⟨S1x256, .f32⟩
  | .hbm, ⟨43, _⟩ => ⟨S1x256, .f32⟩
  | .hbm, ⟨44, _⟩ => ⟨S1x256x1024, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S256x128, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S1x512, .f32⟩
  | .local _ .vmem, ⟨10, _⟩ => ⟨S256x512, .f32⟩
  | .local _ .vmem, ⟨11, _⟩ => ⟨S1x256, .f32⟩
  | .local _ .vmem, ⟨12, _⟩ => ⟨S1x256x128, .f32⟩
  | .local _ .vmem, ⟨13, _⟩ => ⟨S1x256x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== EncodeRefIdeal.lean ====
abbrev S32768x128 : Shape := ⟨2, ![32768, 128]⟩
abbrev S1024x128 : Shape := ⟨2, ![1024, 128]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S256x512 : Shape := ⟨2, ![256, 512]⟩
abbrev S1024x32x128 : Shape := ⟨3, ![1024, 32, 128]⟩
abbrev S1024x1x128 : Shape := ⟨3, ![1024, 1, 128]⟩
abbrev S1024x128x32 : Shape := ⟨3, ![1024, 128, 32]⟩
abbrev S1x128x1 : Shape := ⟨3, ![1, 128, 1]⟩
abbrev S_ : Shape := ⟨0, ![]⟩
abbrev S1024x32x256 : Shape := ⟨3, ![1024, 32, 256]⟩
abbrev S1024x256x32 : Shape := ⟨3, ![1024, 256, 32]⟩
abbrev S1x256x1 : Shape := ⟨3, ![1, 256, 1]⟩
abbrev S1024x256 : Shape := ⟨2, ![1024, 256]⟩
abbrev S1024x256x1 : Shape := ⟨3, ![1024, 256, 1]⟩
abbrev S1024x512x32 : Shape := ⟨3, ![1024, 512, 32]⟩
abbrev S1024x32x512 : Shape := ⟨3, ![1024, 32, 512]⟩
abbrev S1x512x1 : Shape := ⟨3, ![1, 512, 1]⟩
abbrev S1x1024x256 : Shape := ⟨3, ![1, 1024, 256]⟩
abbrev S1x256x1024 : Shape := ⟨3, ![1, 256, 1024]⟩

abbrev nBuf : Space → Nat
  | .hbm => 83
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1024x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S256, .f32⟩
  | .hbm, ⟨9, _⟩ => ⟨S512x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S256x512, .f32⟩
  | .hbm, ⟨16, _⟩ => ⟨S256, .f32⟩
  | .hbm, ⟨17, _⟩ => ⟨S1024x32x128, .f32⟩
  | .hbm, ⟨18, _⟩ => ⟨S1024x1x128, .f32⟩
  | .hbm, ⟨19, _⟩ => ⟨S1024x32x128, .f32⟩
  | .hbm, ⟨20, _⟩ => ⟨S1024x32x128, .f32⟩
  | .hbm, ⟨21, _⟩ => ⟨S1024x128x32, .f32⟩
  | .hbm, ⟨22, _⟩ => ⟨S1x128x1, .f32⟩
  | .hbm, ⟨23, _⟩ => ⟨S1x128x1, .f32⟩
  | .hbm, ⟨24, _⟩ => ⟨S1x128x1, .f32⟩
  | .hbm, ⟨25, _⟩ => ⟨S1x128x1, .f32⟩
  | .hbm, ⟨26, _⟩ => ⟨S_, .f32⟩
  | .hbm, ⟨27, _⟩ => ⟨S1x128x1, .f32⟩
  | .hbm, ⟨28, _⟩ => ⟨S1x128x1, .f32⟩
  | .hbm, ⟨29, _⟩ => ⟨S1x128x1, .f32⟩
  | .hbm, ⟨30, _⟩ => ⟨S1x128x1, .f32⟩
  | .hbm, ⟨31, _⟩ => ⟨S1x128x1, .f32⟩
  | .hbm, ⟨32, _⟩ => ⟨S1x128x1, .f32⟩
  | .hbm, ⟨33, _⟩ => ⟨S1x128x1, .f32⟩
  | .hbm, ⟨34, _⟩ => ⟨S1x128x1, .f32⟩
  | .hbm, ⟨35, _⟩ => ⟨S1024x128x32, .f32⟩
  | .hbm, ⟨36, _⟩ => ⟨S1024x128x32, .f32⟩
  | .hbm, ⟨37, _⟩ => ⟨S_, .f32⟩
  | .hbm, ⟨38, _⟩ => ⟨S1024x128x32, .f32⟩
  | .hbm, ⟨39, _⟩ => ⟨S1024x128x32, .f32⟩
  | .hbm, ⟨40, _⟩ => ⟨S1024x32x256, .f32⟩
  | .hbm, ⟨41, _⟩ => ⟨S1024x256x32, .f32⟩
  | .hbm, ⟨42, _⟩ => ⟨S1x256x1, .f32⟩
  | .hbm, ⟨43, _⟩ => ⟨S1024x256x32, .f32⟩
  | .hbm, ⟨44, _⟩ => ⟨S1024x256x32, .f32⟩
  | .hbm, ⟨45, _⟩ => ⟨S_, .f32⟩
  | .hbm, ⟨46, _⟩ => ⟨S1024x256, .f32⟩
  | .hbm, ⟨47, _⟩ => ⟨S1024x256x1, .f32⟩
  | .hbm, ⟨48, _⟩ => ⟨S1024x256x32, .f32⟩
  | .hbm, ⟨49, _⟩ => ⟨S1024x512x32, .f32⟩
  | .hbm, ⟨50, _⟩ => ⟨S1024x32x512, .f32⟩
  | .hbm, ⟨51, _⟩ => ⟨S1024x512x32, .f32⟩
  | .hbm, ⟨52, _⟩ => ⟨S1x512x1, .f32⟩
  | .hbm, ⟨53, _⟩ => ⟨S1024x512x32, .f32⟩
  | .hbm, ⟨54, _⟩ => ⟨S1024x512x32, .f32⟩
  | .hbm, ⟨55, _⟩ => ⟨S1x512x1, .f32⟩
  | .hbm, ⟨56, _⟩ => ⟨S1024x512x32, .f32⟩
  | .hbm, ⟨57, _⟩ => ⟨S1024x512x32, .f32⟩
  | .hbm, ⟨58, _⟩ => ⟨S1x512x1, .f32⟩
  | .hbm, ⟨59, _⟩ => ⟨S_, .f32⟩
  | .hbm, ⟨60, _⟩ => ⟨S1x512x1, .f32⟩
  | .hbm, ⟨61, _⟩ => ⟨S1x512x1, .f32⟩
  | .hbm, ⟨62, _⟩ => ⟨S1x512x1, .f32⟩
  | .hbm, ⟨63, _⟩ => ⟨S1024x512x32, .f32⟩
  | .hbm, ⟨64, _⟩ => ⟨S1024x512x32, .f32⟩
  | .hbm, ⟨65, _⟩ => ⟨S1x512x1, .f32⟩
  | .hbm, ⟨66, _⟩ => ⟨S1024x512x32, .f32⟩
  | .hbm, ⟨67, _⟩ => ⟨S1024x512x32, .f32⟩
  | .hbm, ⟨68, _⟩ => ⟨S1x512x1, .f32⟩
  | .hbm, ⟨69, _⟩ => ⟨S1024x512x32, .f32⟩
  | .hbm, ⟨70, _⟩ => ⟨S1024x512x32, .f32⟩
  | .hbm, ⟨71, _⟩ => ⟨S_, .f32⟩
  | .hbm, ⟨72, _⟩ => ⟨S1024x512x32, .f32⟩
  | .hbm, ⟨73, _⟩ => ⟨S1024x512x32, .f32⟩
  | .hbm, ⟨74, _⟩ => ⟨S1024x32x256, .f32⟩
  | .hbm, ⟨75, _⟩ => ⟨S1024x256x32, .f32⟩
  | .hbm, ⟨76, _⟩ => ⟨S1x256x1, .f32⟩
  | .hbm, ⟨77, _⟩ => ⟨S1024x256x32, .f32⟩
  | .hbm, ⟨78, _⟩ => ⟨S1024x256x32, .f32⟩
  | .hbm, ⟨79, _⟩ => ⟨S_, .f32⟩
  | .hbm, ⟨80, _⟩ => ⟨S1024x256, .f32⟩
  | .hbm, ⟨81, _⟩ => ⟨S1x1024x256, .f32⟩
  | .hbm, ⟨82, _⟩ => ⟨S1x256x1024, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_2 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_3 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_4 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Proof.Words.lean ====
/-  The gather's control words. Each of the 32 tiles (subcore `i 1` of SparseCore `i 0`) runs eight trips of a
    double-buffered pipeline; the words the loop carries (the next index slot, the current index slot, the current
    and the previous output slot, the block inside the tile) are functions of the trip, and so are the slots, rows
    and conditions computed from them. -/
module

public import proofs.«01_k».proof.Proof.Gen.KernelIdeal
public import proofs.«01_k».proof.Proof.Gen.KernelIdeal.Skeleton

@[expose] public section

set_option Elab.async false

namespace Cert.Proof.Gather

open Cert.KernelIdeal Cert.KernelIdeal.Gen
open Idealize.ShloMosaic

/-- The words the loop carries before trip `k`. -/
def carried (k : ℕ) : BitVec 32 × BitVec 32 × BitVec 32 × BitVec 32 × BitVec 32 :=
  (BitVec.ofNat 32 (min (k + 1) 8), BitVec.ofNat 32 k, BitVec.ofNat 32 k, BitVec.ofNat 32 (k - 1), BitVec.ofNat 32 (k % 8))

/-- The slot of trip `k`. -/
def par (k : ℕ) : Fin 2 := ⟨k % 2, Nat.mod_lt _ (by decide)⟩

/-- The tile's number, `16` tiles to a SparseCore. -/
def tile (i : grid0.Coords) : ℕ := (i 1).val + 16 * (i 0).val

/-- The block of 128 output rows tile `i` does at trip `k`. -/
def blk (i : grid0.Coords) (k : ℕ) : ℕ := 8 * tile i + k

theorem trips_eq : k0_t1_loop.trips = 8 := by decide

theorem par_succ_succ (k : ℕ) : par (k + 2) = par k := by unfold par; simp
theorem par_pred {k : ℕ} (h : 0 < k) : par (k - 1) = par (k + 1) := by
  obtain ⟨n, rfl⟩ : ∃ n, k = n + 1 := ⟨k - 1, by omega⟩
  exact (par_succ_succ n).symm
theorem par_ne (k : ℕ) : par k ≠ par (k + 1) := by
  intro h; have := congrArg Fin.val h; unfold par at this; simp only at this; omega

/-! ## The checks hold -/

theorem chk3 : ∀ k : Fin k0_t1_loop.trips, k0_chk3 (carried k).2.1 := by decide +kernel
theorem chk2 : ∀ k : Fin k0_t1_loop.trips, k0_chk2 (carried k).2.2.1 := by decide +kernel
set_option synthInstance.maxSize 100000 in
set_option synthInstance.maxHeartbeats 0 in
theorem chk1 : ∀ (i : grid0.Coords) (k : Fin k0_t1_loop.trips),
    k0_chk1 i k (carried k).1 (carried k).2.1 (carried k).2.2.1 (carried k).2.2.2.1 (carried k).2.2.2.2 := by decide +kernel
theorem chk4 : k0_chk4 (carried 8).2.2.2.1 := by decide +kernel
theorem chk5 : ∀ i : grid0.Coords, k0_chk5 i (carried 8).2.2.2.2 := by decide +kernel

/-! ## The conditions -/

theorem cond1 : ∀ (i : grid0.Coords) (k : Fin k0_t1_loop.trips), k0_cond1 i k (carried k).2.2.2.2 = 1#1 ↔ k.val < 7 := by decide +kernel
theorem cond2 : ∀ (i : grid0.Coords) (k : Fin k0_t1_loop.trips), k0_cond2 i k (carried k).2.2.2.2 = 1#1 := by decide +kernel
theorem cond5 : ∀ (i : grid0.Coords) (k : Fin k0_t1_loop.trips), k0_cond5 i k (carried k).2.2.2.2 = 1#1 := by decide +kernel
theorem cond7 : ∀ (i : grid0.Coords) (k : Fin k0_t1_loop.trips), k0_cond7 i k (carried k).2.2.2.2 = 1#1 ↔ 0 < k.val := by decide +kernel

/-! ## The slots and rows -/

theorem off4 : ∀ k : Fin k0_t1_loop.trips, k.val < 7 → k0_off4 (carried k).1 = ![(par (k + 1)).val, 0, 0] := by decide +kernel
theorem off6 : ∀ k : Fin k0_t1_loop.trips, k.val < 7 → k0_off6 (carried k).1 = ![(par (k + 1)).val] := by decide +kernel
theorem off5 : ∀ (i : grid0.Coords) (k : Fin k0_t1_loop.trips), k.val < 7 → k0_off5 i (carried k).2.2.2.2 = ![4 * blk i (k + 1), 0] := by decide +kernel
theorem off7 : ∀ k : Fin k0_t1_loop.trips, k0_off7 (carried k).2.1 = ![(par k).val, 0, 0] := by decide +kernel
theorem off9 : ∀ k : Fin k0_t1_loop.trips, k0_off9 (carried k).2.1 = ![(par k).val] := by decide +kernel
theorem off11 : ∀ k : Fin k0_t1_loop.trips, k0_off11 (carried k).2.1 = ![(par k).val, 0, 0] := by decide +kernel
theorem off10 : ∀ k : Fin k0_t1_loop.trips, k0_off10 (carried k).2.2.1 = ![(par k).val, 0, 0] := by decide +kernel
theorem off12 : ∀ k : Fin k0_t1_loop.trips, k0_off12 (carried k).2.2.1 = ![(par k).val, 0, 0] := by decide +kernel
theorem off13 : ∀ (i : grid0.Coords) (k : Fin k0_t1_loop.trips), k0_off13 i (carried k).2.2.2.2 = ![128 * blk i k, 0] := by decide +kernel
theorem off14 : ∀ k : Fin k0_t1_loop.trips, k0_off14 (carried k).2.2.1 = ![(par k).val] := by decide +kernel
theorem off17 : ∀ k : Fin k0_t1_loop.trips, 0 < k.val → k0_off17 (carried k).2.2.2.1 = ![(par (k + 1)).val] := by decide +kernel
theorem off16 : ∀ (i : grid0.Coords) (k : Fin k0_t1_loop.trips), 0 < k.val → k0_off16 i (carried k).2.2.2.2 = ![128 * blk i (k - 1), 0] := by decide +kernel
theorem off20 : k0_off20 (carried 8).2.2.2.1 = ![(par 9).val] := by decide +kernel
theorem off1 : k0_off1 = ![(par 0).val, 0, 0] := by decide +kernel
theorem off2 : ∀ i : grid0.Coords, k0_off2 i = ![4 * blk i 0, 0] := by decide +kernel
theorem off3 : k0_off3 = ![(par 0).val] := by decide +kernel

theorem tile_lt : ∀ i : grid0.Coords, tile i < 32 := by decide +kernel

/-! ## The words a trip computes -/

/-- The first block of the tile, as the task computes it. -/
def firstBlk (i : grid0.Coords) : BitVec 32 :=
  Scalar.muli (Scalar.addi (Scalar.addi 0#32 (Scalar.muli (BitVec.ofNat 32 (i 1).val) 1#32)) (Scalar.muli (BitVec.ofNat 32 (i 0).val) 16#32)) 8#32

/-- The next block inside the tile, wrapping at the tile's last. -/
def nextWord (a10 : BitVec 32) : BitVec 32 :=
  Scalar.select (Scalar.cmpi .eq (Scalar.select 1#1 (Scalar.addi a10 1#32) a10) 8#32) 0#32 (Scalar.select 1#1 (Scalar.addi a10 1#32) a10)
/-- The block before, wrapping at the tile's first. -/
def prevWord (a10 : BitVec 32) : BitVec 32 :=
  Scalar.select (Scalar.cmpi .eq (Scalar.select 1#1 (Scalar.subi a10 1#32) a10) 4294967295#32) 7#32 (Scalar.select 1#1 (Scalar.subi a10 1#32) a10)

/-- The words trip `k` hands to the next one. -/
def computed (i : grid0.Coords) (k : Fin k0_t1_loop.trips) : BitVec 32 × BitVec 32 × BitVec 32 × BitVec 32 × BitVec 32 :=
  let a6 := (carried k).1
  let a7 := (carried k).2.1
  let a8 := (carried k).2.2.1
  let a9 := (carried k).2.2.2.1
  let a10 := (carried k).2.2.2.2
  let n := Scf.iv 0#32 1#32 k
  let here := Scalar.addi a10 (firstBlk i)
  let before := Scalar.addi (prevWord a10) (firstBlk i)
  let after := Scalar.addi (nextWord a10) (firstBlk i)
  (Scalar.select (Scalar.andi (Scalar.andi (Scalar.cmpi .ne here after) (Scalar.xori (Scalar.cmpi .sge n 7#32) 1#1)) 1#1) (Scalar.addi a6 1#32) a6,
   Scalar.select (Scalar.ori (Scalar.cmpi .ne here after) (Scalar.cmpi .eq n 7#32)) (Scalar.addi a7 1#32) a7,
   Scalar.select (Scalar.andi (Scalar.ori (Scalar.cmpi .ne here after) (Scalar.cmpi .eq n 7#32)) 1#1) (Scalar.addi a8 1#32) a8,
   Scalar.select (Scalar.andi (Scalar.andi (Scalar.cmpi .ne here before) (Scalar.xori (Scalar.cmpi .eq n 0#32) 1#1)) 1#1) (Scalar.addi a9 1#32) a9,
   nextWord a10)

theorem computed_eq : ∀ (i : grid0.Coords) (k : Fin k0_t1_loop.trips), computed i k = carried (k.val + 1) := by decide +kernel
theorem carried_zero : carried 0 = (Scalar.addi 0#32 1#32, 0#32, 0#32, 0#32, 0#32) := by decide

theorem blk_lt (i : grid0.Coords) {k : ℕ} (h : k < 8) : blk i k < 256 := by
  have := tile_lt i; unfold blk; omega

end Cert.Proof.Gather

end
-- ==== Proof.Geometry.lean ====
/-  Where the gather's slots, blocks and rows lie. The index scratch has two slots of `4×32` words, the output scratch
    two of `128×128` floats, either with one semaphore per slot; the index array is 256 blocks of four rows and the
    output 256 blocks of 128 rows. Each is given here as the set of its elements and by the element each of its
    multi-indices names, together with the value the kernel computes. -/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

set_option Elab.async false

noncomputable section

namespace Cert.Proof.Gather

open Cert.KernelIdeal Cert.KernelIdeal.Gen
open Idealize.ShloMosaic

/-! ## The memrefs the task addresses -/

/-- A slot of the index scratch, the slot given by its offsets. -/
abbrev iSlotAt (off : Fin 3 → ℕ) (h : ∀ a, off a + S1x4x32.size a ≤ S2x4x32.size a) : Memref sig .scVector .vmem S4x32 .i32 :=
  ((Memref.whole cc0_scoped0).slice (Rect.unit (s := S2x4x32) off S1x4x32.size h) (fun _ => rfl)).squeeze S4x32 squeezes_S1x4x32_S4x32

/-- A slot of the output scratch. -/
abbrev oSlotAt (off : Fin 3 → ℕ) (h : ∀ a, off a + S1x128x128.size a ≤ S2x128x128.size a) : Memref sig .scVector .vmem S128x128 .f32 :=
  ((Memref.whole cc0_scoped2).slice (Rect.unit (s := S2x128x128) off S1x128x128.size h) (fun _ => rfl)).squeeze S128x128 squeezes_S1x128x128_S128x128

/-- Four rows of the index array. -/
abbrev iRowsAt (off : Fin 2 → ℕ) (h : ∀ a, off a + S4x32.size a ≤ S1024x32.size a) : Memref sig .scVector .hbm S4x32 .i32 :=
  (Memref.whole main_arg1_scv).slice (Rect.unit (s := S1024x32) off S4x32.size h) (fun _ => rfl)

/-- 128 rows of the output. -/
abbrev oRowsAt (off : Fin 2 → ℕ) (h : ∀ a, off a + S128x128.size a ≤ S32768x128.size a) : Memref sig .scVector .hbm S128x128 .f32 :=
  (Memref.whole main_v0_scv).slice (Rect.unit (s := S32768x128) off S128x128.size h) (fun _ => rfl)

/-- The table. -/
abbrev tbl : Memref sig .scVector .hbm S1024x128 .f32 :=
  (Memref.whole main_arg0_scv).slice (Rect.unit (s := S1024x128) ![0, 0] S1024x128.size inb_S1024x128_S1024x128_0_0) (fun _ => rfl)

/-- 32 rows of an output slot. -/
abbrev chunkAt (off : Fin 3 → ℕ) (h : ∀ a, off a + S1x128x128.size a ≤ S2x128x128.size a)
    (c : Fin 2 → ℕ) (hc : ∀ a, c a + S32x128.size a ≤ S128x128.size a) : Memref sig .scVector .vmem S32x128 .f32 :=
  (oSlotAt off h).slice (Rect.unit (s := S128x128) c S32x128.size hc) (fun _ => rfl)

/-- One row of an index slot. -/
abbrev listAt (off : Fin 3 → ℕ) (h : ∀ a, off a + S1x4x32.size a ≤ S2x4x32.size a)
    (c : Fin 2 → ℕ) (hc : ∀ a, c a + S1x32.size a ≤ S4x32.size a) : Memref sig .scVector .vmem S32 .i32 :=
  ((iSlotAt off h).slice (Rect.unit (s := S4x32) c S1x32.size hc) (fun _ => rfl)).squeeze S32 squeezes_S1x32_S32

/-- A slot's semaphore, as the task picks it. -/
abbrev semAt (ss : DmaSems sig S2) (off : Fin 1 → ℕ) (h : ∀ a, off a + S1.size a ≤ S2.size a) : DmaSem sig :=
  ((ss.slice (Rect.unit (s := S2) off S1.size h)).squeeze S_ squeezes_S1_S_).sem

/-- The index slots' semaphores and the output slots'. -/
def iSem (p : Fin 2) : DmaSem sig := ⟨p.val, by have := p.isLt; show _ < 8; omega⟩
def oSem (p : Fin 2) : DmaSem sig := ⟨2 + p.val, by have := p.isLt; show _ < 8; omega⟩

theorem semAt_i (p : Fin 2) {off : Fin 1 → ℕ} {h} (e : off = ![p.val]) : semAt cc0_scoped1 off h = iSem p := by
  subst e; revert p; decide
theorem semAt_o (p : Fin 2) {off : Fin 1 → ℕ} {h} (e : off = ![p.val]) : semAt cc0_scoped3 off h = oSem p := by
  subst e; revert p; decide

/-! ## The element each multi-index names -/

variable {F : FTy → Type}

theorem unit_emb {s : Shape} (off size : Fin s.rank → ℕ) (h : ∀ a, off a + size a ≤ s.size a) (y : (Rect.unit off size h).shape.Idx) (a : Fin s.rank) :
    ((Rect.unit off size h).emb y a : ℕ) = off a + (y a : ℕ) := by
  rw [Rect.emb_apply]; simp [Rect.unit]

theorem iSlot_emb (p : Fin 2) {off : Fin 3 → ℕ} {h} (e : off = ![p.val, 0, 0]) (y : S4x32.Idx) (a : Fin 3) :
    ((iSlotAt off h).view.emb y a : ℕ) = (![p.val, (y 0 : ℕ), (y 1 : ℕ)] : Fin 3 → ℕ) a := by
  subst e
  show ((Rect.unit (s := S2x4x32) ![p.val, 0, 0] S1x4x32.size h).emb (Shape.reshapeEquiv squeezes_S1x4x32_S4x32.numel_eq y) a : ℕ) = _
  rw [Rect.emb_apply, Shape.reshapeEquiv_cons_one]
  match a with
  | 0 => simp [Rect.unit]; try rfl
  | 1 => simp [Rect.unit]; rfl
  | 2 => simp [Rect.unit]; rfl

theorem oSlot_emb (p : Fin 2) {off : Fin 3 → ℕ} {h} (e : off = ![p.val, 0, 0]) (y : S128x128.Idx) (a : Fin 3) :
    ((oSlotAt off h).view.emb y a : ℕ) = (![p.val, (y 0 : ℕ), (y 1 : ℕ)] : Fin 3 → ℕ) a := by
  subst e
  show ((Rect.unit (s := S2x128x128) ![p.val, 0, 0] S1x128x128.size h).emb (Shape.reshapeEquiv squeezes_S1x128x128_S128x128.numel_eq y) a : ℕ) = _
  rw [Rect.emb_apply, Shape.reshapeEquiv_cons_one]
  match a with
  | 0 => simp [Rect.unit]; try rfl
  | 1 => simp [Rect.unit]; rfl
  | 2 => simp [Rect.unit]; rfl

theorem iRows_emb (b : ℕ) {off : Fin 2 → ℕ} {h} (e : off = ![4 * b, 0]) (y : S4x32.Idx) (a : Fin 2) :
    ((iRowsAt off h).view.emb y a : ℕ) = (![4 * b + (y 0 : ℕ), (y 1 : ℕ)] : Fin 2 → ℕ) a := by
  subst e
  show ((Rect.unit (s := S1024x32) ![4 * b, 0] S4x32.size h).emb y a : ℕ) = _
  rw [Rect.emb_apply]
  match a with
  | 0 => simp [Rect.unit]; try rfl
  | 1 => simp [Rect.unit]

theorem oRows_emb (b : ℕ) {off : Fin 2 → ℕ} {h} (e : off = ![128 * b, 0]) (y : S128x128.Idx) (a : Fin 2) :
    ((oRowsAt off h).view.emb y a : ℕ) = (![128 * b + (y 0 : ℕ), (y 1 : ℕ)] : Fin 2 → ℕ) a := by
  subst e
  show ((Rect.unit (s := S32768x128) ![128 * b, 0] S128x128.size h).emb y a : ℕ) = _
  rw [Rect.emb_apply]
  match a with
  | 0 => simp [Rect.unit]; try rfl
  | 1 => simp [Rect.unit]

theorem chunk_emb (p : Fin 2) {off : Fin 3 → ℕ} {h} (e : off = ![p.val, 0, 0]) (j : ℕ) {c : Fin 2 → ℕ} {hc} (ec : c = ![32 * j, 0])
    (y : S32x128.Idx) (a : Fin 3) :
    ((chunkAt off h c hc).view.emb y a : ℕ) = (![p.val, 32 * j + (y 0 : ℕ), (y 1 : ℕ)] : Fin 3 → ℕ) a := by
  subst ec
  show ((oSlotAt off h).view.emb ((Rect.unit (s := S128x128) ![32 * j, 0] S32x128.size hc).emb y) a : ℕ) = _
  rw [oSlot_emb p e]
  match a with
  | 0 => rfl
  | 1 => exact unit_emb (s := S128x128) _ _ hc y 0
  | 2 => exact (unit_emb (s := S128x128) _ _ hc y 1).trans (Nat.zero_add _)

theorem list_emb (p : Fin 2) {off : Fin 3 → ℕ} {h} (e : off = ![p.val, 0, 0]) (j : ℕ) {c : Fin 2 → ℕ} {hc} (ec : c = ![j, 0])
    (y : S32.Idx) (a : Fin 3) :
    ((listAt off h c hc).view.emb y a : ℕ) = (![p.val, j, (y 0 : ℕ)] : Fin 3 → ℕ) a := by
  subst ec
  show ((iSlotAt off h).view.emb ((Rect.unit (s := S4x32) ![j, 0] S1x32.size hc).emb (Shape.reshapeEquiv squeezes_S1x32_S32.numel_eq y)) a : ℕ) = _
  rw [iSlot_emb p e, Shape.reshapeEquiv_cons_one]
  match a with
  | 0 => rfl
  | 1 => exact unit_emb (s := S4x32) _ _ hc _ 0
  | 2 => exact (unit_emb (s := S4x32) _ _ hc _ 1).trans (Nat.zero_add _)

/-! ## The elements each holds -/

/-- Slot `p` of the index scratch, and of the output scratch. -/
def iSlotSet (p : Fin 2) : Finset S2x4x32.Idx := Finset.univ.filter fun x => (x 0 : ℕ) = p.val
def oSlotSet (p : Fin 2) : Finset S2x128x128.Idx := Finset.univ.filter fun x => (x 0 : ℕ) = p.val
/-- Block `b` of the index array, and of the output. -/
def iBlkSet (b : ℕ) : Finset S1024x32.Idx := Finset.univ.filter fun x => (x 0 : ℕ) / 4 = b
def oBlkSet (b : ℕ) : Finset S32768x128.Idx := Finset.univ.filter fun x => (x 0 : ℕ) / 128 = b

/-- Two multi-indices of a shape of rank two, or three, agree when their coordinates do. -/
theorem ext2 {n0 n1 : ℕ} {x y : (⟨2, ![n0, n1]⟩ : Shape).Idx} (h0 : (x 0 : ℕ) = y 0) (h1 : (x 1 : ℕ) = y 1) : x = y :=
  funext fun a => Fin.ext (match a with | 0 => h0 | 1 => h1)
theorem ext3 {n0 n1 n2 : ℕ} {x y : (⟨3, ![n0, n1, n2]⟩ : Shape).Idx} (h0 : (x 0 : ℕ) = y 0) (h1 : (x 1 : ℕ) = y 1) (h2 : (x 2 : ℕ) = y 2) : x = y :=
  funext fun a => Fin.ext (match a with | 0 => h0 | 1 => h1 | 2 => h2)

/-- The multi-indices of the shapes below, from their coordinates. -/
def ix2 {n0 n1 : ℕ} (a : Fin n0) (b : Fin n1) : (⟨2, ![n0, n1]⟩ : Shape).Idx := fun | 0 => a | 1 => b

theorem iSlot_set (p : Fin 2) {off : Fin 3 → ℕ} {h} (e : off = ![p.val, 0, 0]) : (iSlotAt off h).view.set = iSlotSet p := by
  ext x
  simp only [View.set, iSlotSet, Finset.mem_map, Finset.mem_univ, true_and, Finset.mem_filter]
  constructor
  · rintro ⟨y, rfl⟩; exact iSlot_emb p e y 0
  · intro hx
    refine ⟨ix2 (x 1) (x 2), ext3 (n0 := 2) (n1 := 4) (n2 := 32) ?_ ?_ ?_⟩
    · rw [iSlot_emb p e]; exact hx.symm
    · rw [iSlot_emb p e]; rfl
    · rw [iSlot_emb p e]; rfl

theorem oSlot_set (p : Fin 2) {off : Fin 3 → ℕ} {h} (e : off = ![p.val, 0, 0]) : (oSlotAt off h).view.set = oSlotSet p := by
  ext x
  simp only [View.set, oSlotSet, Finset.mem_map, Finset.mem_univ, true_and, Finset.mem_filter]
  constructor
  · rintro ⟨y, rfl⟩; exact oSlot_emb p e y 0
  · intro hx
    refine ⟨ix2 (x 1) (x 2), ext3 (n0 := 2) (n1 := 128) (n2 := 128) ?_ ?_ ?_⟩
    · rw [oSlot_emb p e]; exact hx.symm
    · rw [oSlot_emb p e]; rfl
    · rw [oSlot_emb p e]; rfl

theorem iRows_set (b : ℕ) {off : Fin 2 → ℕ} {h} (e : off = ![4 * b, 0]) : (iRowsAt off h).view.set = iBlkSet b := by
  ext x
  simp only [View.set, iBlkSet, Finset.mem_map, Finset.mem_univ, true_and, Finset.mem_filter]
  constructor
  · rintro ⟨y, rfl⟩
    rw [show (((iRowsAt off h).view.emb y 0 : Fin _) : ℕ) = 4 * b + (y 0 : ℕ) from iRows_emb b e y 0]
    have : (y 0 : ℕ) < 4 := (y 0).isLt
    omega
  · intro hx
    refine ⟨ix2 ⟨(x 0 : ℕ) % 4, Nat.mod_lt _ (by decide)⟩ (x 1), ext2 (n0 := 1024) (n1 := 32) ?_ ?_⟩
    · rw [iRows_emb b e]; show 4 * b + (x 0 : ℕ) % 4 = x 0; omega
    · rw [iRows_emb b e]; rfl

theorem oRows_set (b : ℕ) {off : Fin 2 → ℕ} {h} (e : off = ![128 * b, 0]) : (oRowsAt off h).view.set = oBlkSet b := by
  ext x
  simp only [View.set, oBlkSet, Finset.mem_map, Finset.mem_univ, true_and, Finset.mem_filter]
  constructor
  · rintro ⟨y, rfl⟩
    rw [show (((oRowsAt off h).view.emb y 0 : Fin _) : ℕ) = 128 * b + (y 0 : ℕ) from oRows_emb b e y 0]
    have : (y 0 : ℕ) < 128 := (y 0).isLt
    omega
  · intro hx
    refine ⟨ix2 ⟨(x 0 : ℕ) % 128, Nat.mod_lt _ (by decide)⟩ (x 1), ext2 (n0 := 32768) (n1 := 128) ?_ ?_⟩
    · rw [oRows_emb b e]; show 128 * b + (x 0 : ℕ) % 128 = x 0; omega
    · rw [oRows_emb b e]; rfl

theorem chunk_subset (p : Fin 2) {off : Fin 3 → ℕ} {h} (e : off = ![p.val, 0, 0]) {c : Fin 2 → ℕ} {hc} :
    (chunkAt off h c hc).view.set ⊆ oSlotSet p := by
  intro x hx
  obtain ⟨y, -, rfl⟩ := Finset.mem_map.mp hx
  exact Finset.mem_filter.mpr ⟨Finset.mem_univ _, oSlot_emb (h := h) p e ((Rect.unit (s := S128x128) c S32x128.size hc).emb y) 0⟩

theorem list_subset (p : Fin 2) {off : Fin 3 → ℕ} {h} (e : off = ![p.val, 0, 0]) {c : Fin 2 → ℕ} {hc} :
    (listAt off h c hc).view.set ⊆ iSlotSet p := by
  intro x hx
  obtain ⟨y, -, rfl⟩ := Finset.mem_map.mp hx
  exact Finset.mem_filter.mpr ⟨Finset.mem_univ _, iSlot_emb (h := h) p e
    ((Rect.unit (s := S4x32) c S1x32.size hc).emb (Shape.reshapeEquiv squeezes_S1x32_S32.numel_eq y)) 0⟩

theorem tbl_emb (x : S1024x128.Idx) : (tbl).view.emb x = x := by
  have h : ∀ a : Fin 2, ((Rect.unit (s := S1024x128) ![0, 0] S1024x128.size inb_S1024x128_S1024x128_0_0).emb x a : ℕ) = (x a : ℕ) := by
    intro a; rw [Rect.emb_apply]
    match a with
    | 0 => simp [Rect.unit]; try rfl
    | 1 => simp [Rect.unit]
  exact ext2 (n0 := 1024) (n1 := 128) (h 0) (h 1)

theorem tbl_set : (tbl).view.set = Finset.univ := by
  ext x
  simp only [View.set, Finset.mem_map, Finset.mem_univ, true_and, iff_true]
  exact ⟨x, tbl_emb x⟩

/-! ## The value -/

/-- The gathered rows: row `r` of the output is the row of the table that word `r` of the indices, in row-major order,
    names (its remainder by the number of rows, so that it is a row whatever the word). -/
def gath {α : Type} (A : S1024x128.Idx → α) (I : S1024x32.Idx → BitVec 32) (x : S32768x128.Idx) : α :=
  A (ix2 (n0 := 1024) (n1 := 128)
    ⟨(I (ix2 (n0 := 1024) (n1 := 32) ⟨(x 0 : ℕ) / 32, by have : (x 0 : ℕ) < 32768 := (x 0).isLt; omega⟩ ⟨(x 0 : ℕ) % 32, Nat.mod_lt _ (by decide)⟩)).toNat % 1024,
      Nat.mod_lt _ (by decide)⟩ (x 1))

/-- Slot `p` of the index scratch holds block `b` of the indices. -/
def IdxOK (I : S1024x32.Idx → BitVec 32) (p : Fin 2) (b : ℕ) (g : S2x4x32.Idx → BitVec 32) : Prop :=
  ∀ (x : S2x4x32.Idx) (z : S1024x32.Idx), (x 0 : ℕ) = p.val → (z 0 : ℕ) = 4 * b + (x 1 : ℕ) → (z 1 : ℕ) = (x 2 : ℕ) → g x = I z

/-- The first `32·n` rows of slot `p` of the output scratch are those of block `b` of the output. -/
def RowsDone {α : Type} (A : S1024x128.Idx → α) (I : S1024x32.Idx → BitVec 32) (p : Fin 2) (b n : ℕ) (f : S2x128x128.Idx → α) : Prop :=
  ∀ (x : S2x128x128.Idx) (z : S32768x128.Idx), (x 0 : ℕ) = p.val → (x 1 : ℕ) < 32 * n → (z 0 : ℕ) = 128 * b + (x 1 : ℕ) → (z 1 : ℕ) = (x 2 : ℕ) →
    f x = gath A I z

end Cert.Proof.Gather

end

end
-- ==== Proof.Landed.lean ====
/-  What each transfer of the gather leaves where it lands: a block of the indices in an index slot, 32 more rows of the
    table in an output slot, an output slot's rows in their block of the output. -/
module

public import proofs.«01_k».proof.Proof.Geometry

@[expose] public section

set_option Elab.async false

noncomputable section

namespace Cert.Proof.Gather

open Cert.KernelIdeal Cert.KernelIdeal.Gen
open Idealize.ShloMosaic

variable {F : FTy → Type}

/-- An index slot rewritten with four rows of the indices holds them. -/
theorem idx_landed (I : S1024x32.Idx → Elt F .i32) (p : Fin 2) (b : ℕ) {o4 : Fin 3 → ℕ} {h4} (e4 : o4 = ![p.val, 0, 0])
    {o5 : Fin 2 → ℕ} {h5} (e5 : o5 = ![4 * b, 0]) (g : S2x4x32.Idx → Elt F .i32) :
    IdxOK I p b ((iSlotAt o4 h4).view.write (Elt F) g ((iRowsAt o5 h5).view.read (Elt F) I) Finset.univ) := by
  intro x z hx h0 h1
  have hem : x = (iSlotAt o4 h4).view.emb (ix2 (x 1) (x 2)) := by
    refine ext3 (n0 := 2) (n1 := 4) (n2 := 32) ?_ ?_ ?_
    · rw [iSlot_emb p e4]; exact hx
    · rw [iSlot_emb p e4]; rfl
    · rw [iSlot_emb p e4]; rfl
  have hez : z = (iRowsAt o5 h5).view.emb (ix2 (x 1) (x 2)) := by
    refine ext2 (n0 := 1024) (n1 := 32) ?_ ?_
    · rw [iRows_emb b e5]; exact h0
    · rw [iRows_emb b e5]; exact h1
  rw [hez]
  conv_lhs => rw [hem]
  rw [View.write_emb_of_mem _ _ (Finset.mem_univ _)]
  exact cast_cast _ _ _

/-- A block of the output rewritten with a finished slot holds the gathered rows. -/
theorem out_landed (A : S1024x128.Idx → Elt F .f32) (I : S1024x32.Idx → BitVec 32) (p : Fin 2) (b : ℕ) {o12 : Fin 3 → ℕ} {h12}
    (e12 : o12 = ![p.val, 0, 0]) {o13 : Fin 2 → ℕ} {h13} (e13 : o13 = ![128 * b, 0]) (f : S2x128x128.Idx → Elt F .f32)
    (g : S32768x128.Idx → Elt F .f32) (hf : RowsDone A I p b 4 f) :
    ∀ z ∈ oBlkSet b, (oRowsAt o13 h13).view.write (Elt F) g ((oSlotAt o12 h12).view.read (Elt F) f) Finset.univ z = gath A I z := by
  intro z hz
  have hzb : (z 0 : ℕ) / 128 = b := (Finset.mem_filter.mp hz).2
  let y : S128x128.Idx := ix2 ⟨(z 0 : ℕ) % 128, Nat.mod_lt _ (by decide)⟩ (z 1)
  have hez : z = (oRowsAt o13 h13).view.emb y := by
    refine ext2 (n0 := 32768) (n1 := 128) ?_ ?_
    · rw [oRows_emb b e13]; show (z 0 : ℕ) = 128 * b + (z 0 : ℕ) % 128; omega
    · rw [oRows_emb b e13]; rfl
  conv_lhs => rw [hez]
  rw [View.write_emb_of_mem _ _ (Finset.mem_univ _)]
  refine (cast_cast _ _ _).trans ?_
  refine hf _ z (oSlot_emb p e12 y 0) ?_ ?_ ?_
  · rw [show (((oSlotAt o12 h12).view.emb y 1 : Fin _) : ℕ) = (z 0 : ℕ) % 128 from oSlot_emb p e12 y 1]; omega
  · rw [show (((oSlotAt o12 h12).view.emb y 1 : Fin _) : ℕ) = (z 0 : ℕ) % 128 from oSlot_emb p e12 y 1]; omega
  · exact (oSlot_emb p e12 y 2).symm

/-- Word `n` of a list of 32, as the list's row-major order counts them. -/
theorem list_entry (n : Fin S32.numel) : ((S32.rowMajor.symm n) 0 : ℕ) = n := by
  have h := Shape.rowMajor_val_one (d := ![32]) (S32.rowMajor.symm n)
  rw [Equiv.apply_symm_apply] at h
  exact h.symm

/-- The words a gather's list names are rows of the table. -/
theorem list_in_rows (I : S1024x32.Idx → Elt F .i32) (hI : ∀ z, (I z).toNat < 1024) (p : Fin 2) {b : ℕ} (hb : b < 256) {o11 : Fin 3 → ℕ} {h11}
    (e11 : o11 = ![p.val, 0, 0]) {j : ℕ} (hj : j < 4) {c : Fin 2 → ℕ} {hc} (ec : c = ![j, 0]) (g : S2x4x32.Idx → Elt F .i32) (hg : IdxOK I p b g) (y : S32.Idx) :
    ((listAt o11 h11 c hc).view.read (Elt F) g y).toNat
      = (I (ix2 (n0 := 1024) (n1 := 32) ⟨4 * b + j, by omega⟩ (y 0))).toNat := by
  congr 1
  refine (View.read_apply _ _).trans ((cast_eq _ _).trans ?_)
  refine hg _ _ (list_emb p e11 j ec y 0) ?_ ?_
  · rw [show (((listAt o11 h11 c hc).view.emb y 1 : Fin _) : ℕ) = j from list_emb p e11 j ec y 1]; rfl
  · exact (list_emb p e11 j ec y 2).symm

/-- One gather finishes 32 more rows of the slot. -/
theorem rows_landed (A : S1024x128.Idx → Elt F .f32) (I : S1024x32.Idx → Elt F .i32) (hI : ∀ z, (I z).toNat < 1024) (p : Fin 2) {b : ℕ} (hb : b < 256)
    {o10 : Fin 3 → ℕ} {h10} (e10 : o10 = ![p.val, 0, 0]) {o11 : Fin 3 → ℕ} {h11} (e11 : o11 = ![p.val, 0, 0]) {j : ℕ} (hj : j < 4)
    {c : Fin 2 → ℕ} {hc} (ec : c = ![32 * j, 0]) {l : Fin 2 → ℕ} {hl} (el : l = ![j, 0])
    (g : S2x4x32.Idx → Elt F .i32) (hg : IdxOK I p b g) (f : S2x128x128.Idx → Elt F .f32) (hf : RowsDone A I p b j f)
    (hn : S32.numel = S32x128.size gathers_S1024x128_S32x128.axis')
    (hin : ∀ y, ((listAt o11 h11 l hl).view.read (Elt F) g y).toNat < S1024x128.size gathers_S1024x128_S32x128.axis) :
    RowsDone A I p b (j + 1) ((chunkAt o10 h10 c hc).view.write (Elt F) f
      (SparseCore.gatherPayload gathers_S1024x128_S32x128 ((tbl).view.read (Elt F) A)
        (SparseCore.rows ((listAt o11 h11 l hl).view.read (Elt F) g) hn hin)) Finset.univ) := by
  intro x z hx hx1 h0 h1
  by_cases hlt : (x 1 : ℕ) < 32 * j
  · rw [View.write_of_not_mem]
    · exact hf x z hx hlt h0 h1
    · rw [View.setOn_univ]
      intro hm
      obtain ⟨y, -, rfl⟩ := Finset.mem_map.mp hm
      rw [show (((chunkAt o10 h10 c hc).view.emb y 1 : Fin _) : ℕ) = 32 * j + (y 0 : ℕ) from chunk_emb p e10 j ec y 1] at hlt
      omega
  · let y : S32x128.Idx := ix2 (n0 := 32) (n1 := 128) ⟨(x 1 : ℕ) - 32 * j, by omega⟩ (x 2)
    have hem : x = (chunkAt o10 h10 c hc).view.emb y := by
      refine ext3 (n0 := 2) (n1 := 128) (n2 := 128) ?_ ?_ ?_
      · rw [chunk_emb p e10 j ec]; exact hx
      · rw [chunk_emb p e10 j ec]; show (x 1 : ℕ) = 32 * j + ((x 1 : ℕ) - 32 * j); omega
      · rw [chunk_emb p e10 j ec]; rfl
    rw [hem, View.write_emb_of_mem _ _ (Finset.mem_univ _)]
    refine (cast_eq _ _).trans ((View.read_apply _ _).trans ((cast_eq _ _).trans ?_))
    rw [tbl_emb]
    unfold gath
    congr 1
    refine ext2 (n0 := 1024) (n1 := 128) ?_ ?_
    · refine (congrArg Fin.val (Shape.Gathers.idx_axis gathers_S1024x128_S32x128 _ y)).trans ?_
      show ((listAt o11 h11 l hl).view.read (Elt F) g (S32.rowMajor.symm ((y 0).cast hn.symm))).toNat = _ % 1024
      rw [list_in_rows I hI p hb e11 hj el g hg, Nat.mod_eq_of_lt (hI _)]
      congr 2
      refine ext2 (n0 := 1024) (n1 := 32) ?_ ?_
      · show 4 * b + j = (z 0 : ℕ) / 32; omega
      · refine (list_entry _).trans ?_
        show (x 1 : ℕ) - 32 * j = (z 0 : ℕ) % 32; omega
    · exact (Shape.Gathers.idx_of_ne gathers_S1024x128_S32x128 _ y 1 (by decide)).trans h1.symm

end Cert.Proof.Gather

end

end
-- ==== Proof.Effects.lean ====
/-  The task's transfers, one rule each: what a tile holds when it starts one, what is in flight, and what its wait
    brings. A slot's content is carried in the rules: the words of a block of the indices, the rows gathered so far. -/
module

public import proofs.«01_k».proof.Proof.Landed

@[expose] public section

set_option Elab.async false

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program and its ghost state -/

abbrev ΛP : Labels := Pipeline.Sig Λ₀ (Fin 0) fun p => (pcfgs (F := F) p).Adm
abbrev K : SparseCore.Cfg τ sig (ΛP (F := F)) 1 := sc (F := F)
abbrev 𝒱₀ : Variants := Variants.none

/-- The handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The processor of coordinates `L`, and its thread on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The table, the indices and the output, on device `d`. -/
abbrev aLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

section Rules

variable (d : Dev nD) (L : grid0.Coords)
variable (A : S1024x128.Idx → Elt F .f32) (I : S1024x32.Idx → Elt F .i32)

/-! ## What a tile holds -/

/-- Block `b` of the indices; of the output, at `f`; slot `p` of the index scratch, and of the output scratch. -/
abbrev blkI (b : ℕ) : sProp 𝕄 := iLoc d ↦[iBlkSet b]{fullShare} I
abbrev blkO (b : ℕ) (f : S32768x128.Idx → Elt F .f32) : sProp 𝕄 := oLoc d ↦[oBlkSet b]{fullShare} f
abbrev slotI (p : Fin 2) (g : S2x4x32.Idx → Elt F .i32) : sProp 𝕄 := (thr d L).loc cc0_scoped0 ↦[iSlotSet p]{fullShare} g
abbrev slotO (p : Fin 2) (f : S2x128x128.Idx → Elt F .f32) : sProp 𝕄 := (thr d L).loc cc0_scoped2 ↦[oSlotSet p]{fullShare} f

/-- A slot not in use. -/
abbrev freeI (p : Fin 2) : sProp 𝕄 := iprop(∃ g, slotI d L p g)
abbrev freeO (p : Fin 2) : sProp 𝕄 := iprop(∃ f, slotO d L p f)

abbrev cellI (p : Fin 2) : GSem nD τ sig := (thr d L, SemLoc.dma (iSem p))
abbrev cellO (p : Fin 2) : GSem nD τ sig := (thr d L, SemLoc.dma (oSem p))

/-- The amounts the transfers complete with. -/
abbrev creditI : ℕ := (cc0_scoped0 : Ref sig .scVector).dmaCredit S4x32 .i32
abbrev creditO : ℕ := (main_v0_scv : Ref sig .scVector).dmaCredit S128x128 .f32
abbrev creditG : ℕ := (cc0_scoped2 : Ref sig .scVector).dmaCredit S32x128 .f32

/-- Block `b` of the indices on its way to slot `p`. -/
abbrev loading (p : Fin 2) (b : ℕ) : sProp 𝕄 :=
  Transfers.Flight countersEmb (thr d L) (.dma (iSem p)) (default : HIx 1) creditI
    iprop((∃ g, ⌜IdxOK I p b g⌝ ∗ slotI d L p g) ∗ blkI d I b)
/-- Block `b` of the output on its way from slot `p`. -/
abbrev storing (p : Fin 2) (b : ℕ) : sProp 𝕄 :=
  Transfers.Flight countersEmb (thr d L) (.dma (oSem p)) (default : HIx 1) creditO
    iprop(blkO d b (gath A I) ∗ freeO d L p)

variable [FloatOps F]

/-- The weakest precondition of the task's programs. -/
abbrev wpT {α : Type} (p : Prog (TpuEff nD τ sig (Elt F) Λ₀ (thr d L).2) α) (Q : α → sProp 𝕄) : sProp 𝕄 :=
  wp frame (wpE (defs₀ (F := F)) 𝒱₀ (thr d L) none) Set.univ p Q

/-! ## The rules -/

theorem start_load (p : Fin 2) (b : ℕ) {o4 : Fin 3 → ℕ} {h4} (e4 : o4 = ![p.val, 0, 0]) {o5 : Fin 2 → ℕ} {h5} (e5 : o5 = ![4 * b, 0])
    {o6 : Fin 1 → ℕ} {h6} (e6 : o6 = ![p.val]) {hs hd ht} {Q : PUnit → sProp 𝕄} :
    iprop(blkI d I b ∗ freeI d L p ∗ semVal (cellI d L p) 0)
      ⊢ iprop((loading d L I p b -∗ Q ⟨⟩)
        -∗ wpT d L (Prog.lift (.enqueueDma (iRowsAt o5 h5) (.here (iSlotAt o4 h4)) (.dma (semAt cc0_scoped1 o6 h6)) hs hd ht)) Q) := by
  have hset : (iSlotAt o4 h4).view.set = iSlotSet p := iSlot_set p e4
  have hset' : (iRowsAt o5 h5).view.set = iBlkSet b := iRows_set b e5
  have es := semAt_i p (h := h6) e6
  generalize semAt cc0_scoped1 o6 h6 = s at es ht ⊢
  subst es
  iintro ⟨Hb, ⟨%g, Hs⟩, Hv⟩ Hk
  iapply (Transfers.wp_dmaLocal countersEmb 𝒱₀ (thr d L) none (Sd := iSlotSet p) (default : HIx 1) creditI rfl
    (View.dmaCredit_pos (iSlotAt o4 h4).view (by decide)) (Finset.subset_of_eq hset) (fd := g) (fs := I) (q := fullShare)) $$ [Hb Hs Hv]
  · rw [hset']
    isplitl [Hb]; · iexact Hb
    isplitl [Hs]; · iexact Hs
    iexact Hv
  iintro Hfl
  iapply (le_wp_ret _ _ _ _ Q)
  iapply Hk
  iapply (Transfers.Flight_mono countersEmb (thr d L) ?_) $$ Hfl
  rw [hset']
  iintro ⟨Hd, Hs⟩
  isplitl [Hd]
  · iexists _; isplitr
    swap; · iexact Hd
    ipureintro
    exact idx_landed I p b e4 e5 g
  · iexact Hs

/-- What the task still owes, its own waits recorded. -/
abbrev owed (O : CellTallies nD τ sig (HIx 1)) (W : Waits sig (HIx 1)) : sProp 𝕄 :=
  iprop(∃ W', ⌜∀ p ∈ W', p ∈ W ∨ p.2 = none⌝ ∗ owes (thr d L) O W')

variable (O : CellTallies nD τ sig (HIx 1)) (W : Waits sig (HIx 1))

abbrev mayWaits : sProp 𝕄 := Transfers.MayWaits (thr d L) (default : HIx 1) O

theorem owed_insert {W' : Waits sig (HIx 1)} (h : ∀ p ∈ W', p ∈ W ∨ p.2 = none) (s : SemLoc sig) :
    (owes (thr d L) O (insert (s, (default : HIx 1)) W') : sProp 𝕄) ⊢ owed d L O W := by
  iintro HO
  iexists _; isplitr
  swap; · iexact HO
  ipureintro; intro p hp
  rcases Finset.mem_insert.mp hp with hp | hp
  · exact .inr (hp ▸ rfl)
  · exact h p hp

theorem end_load (p : Fin 2) (b : ℕ) {o7 : Fin 3 → ℕ} {h7} {o8 : Fin 2 → ℕ} {h8}
    {o9 : Fin 1 → ℕ} {h9} (e9 : o9 = ![p.val]) {hs hd} {Q : PUnit → sProp 𝕄} :
    iprop(loading d L I p b ∗ owed d L O W ∗ mayWaits d L O)
      ⊢ iprop((iprop((∃ g, ⌜IdxOK I p b g⌝ ∗ slotI d L p g) ∗ blkI d I b ∗ semVal (cellI d L p) 0 ∗ owed d L O W) -∗ Q ⟨⟩)
        -∗ wpT d L (Prog.lift (.waitDma2 (semAt cc0_scoped1 o9 h9) (iRowsAt o8 h8) (iSlotAt o7 h7) hs hd)) Q) := by
  rw [semAt_i p (h := h9) e9]
  iintro ⟨Hfl, ⟨%W', %hW, HO⟩, Hmw⟩ Hk
  iapply (Transfers.wp_waitLocalO countersEmb 𝒱₀ (thr d L) none (default : HIx 1) (N := creditI) rfl) $$ [Hfl HO Hmw]
  · isplitl [Hfl]; · iexact Hfl
    isplitl [HO]; · iexact HO
    iapply (Transfers.MayWaits.elim (SemLoc.dma (iSem p))) $$ Hmw
  iintro ⟨⟨Hs, Hb⟩, Hv, HO⟩
  iapply (le_wp_ret _ _ _ _ Q)
  iapply Hk
  isplitl [Hs]; · iexact Hs
  isplitl [Hb]; · iexact Hb
  isplitl [Hv]; · iexact Hv
  iapply (owed_insert d L O W hW) $$ HO

theorem start_store (p : Fin 2) (b : ℕ) {o12 : Fin 3 → ℕ} {h12} (e12 : o12 = ![p.val, 0, 0]) {o13 : Fin 2 → ℕ} {h13} (e13 : o13 = ![128 * b, 0])
    {o14 : Fin 1 → ℕ} {h14} (e14 : o14 = ![p.val]) {hs hd ht} {Q : PUnit → sProp 𝕄} (f : S2x128x128.Idx → Elt F .f32) (hf : RowsDone A I p b 4 f)
    (f' : S32768x128.Idx → Elt F .f32) :
    iprop(slotO d L p f ∗ blkO d b f' ∗ semVal (cellO d L p) 0)
      ⊢ iprop((storing d L A I p b -∗ Q ⟨⟩)
        -∗ wpT d L (Prog.lift (.enqueueDma (oSlotAt o12 h12) (.here (oRowsAt o13 h13)) (.dma (semAt cc0_scoped3 o14 h14)) hs hd ht)) Q) := by
  have hset : (oSlotAt o12 h12).view.set = oSlotSet p := oSlot_set p e12
  have hset' : (oRowsAt o13 h13).view.set = oBlkSet b := oRows_set b e13
  have es := semAt_o p (h := h14) e14
  generalize semAt cc0_scoped3 o14 h14 = s at es ht ⊢
  subst es
  iintro ⟨Hs, Hb, Hv⟩ Hk
  iapply (Transfers.wp_dmaLocal countersEmb 𝒱₀ (thr d L) none (Sd := oBlkSet b) (default : HIx 1) creditO rfl
    (View.dmaCredit_pos (oRowsAt o13 h13).view (by decide)) (Finset.subset_of_eq hset') (fd := f') (fs := f) (q := fullShare)) $$ [Hs Hb Hv]
  · rw [hset]
    isplitl [Hs]; · iexact Hs
    isplitl [Hb]; · iexact Hb
    iexact Hv
  iintro Hfl
  iapply (le_wp_ret _ _ _ _ Q)
  iapply Hk
  iapply (Transfers.Flight_mono countersEmb (thr d L) ?_) $$ Hfl
  rw [hset]
  iintro ⟨Hd, Hs⟩
  isplitl [Hd]
  · iapply (Entails.of_eq (pointsTo_congr (out_landed A I p b e12 e13 f f' hf))) $$ Hd
  · iexists f; iexact Hs

theorem end_store (p : Fin 2) (b : ℕ) {o15 : Fin 3 → ℕ} {h15} {o16 : Fin 2 → ℕ} {h16}
    {o17 : Fin 1 → ℕ} {h17} (e17 : o17 = ![p.val]) {hs hd} {Q : PUnit → sProp 𝕄} :
    iprop(storing d L A I p b ∗ owed d L O W ∗ mayWaits d L O)
      ⊢ iprop((iprop(blkO d b (gath A I) ∗ freeO d L p ∗ semVal (cellO d L p) 0 ∗ owed d L O W) -∗ Q ⟨⟩)
        -∗ wpT d L (Prog.lift (.waitDma2 (semAt cc0_scoped3 o17 h17) (oSlotAt o15 h15) (oRowsAt o16 h16) hs hd)) Q) := by
  rw [semAt_o p (h := h17) e17]
  iintro ⟨Hfl, ⟨%W', %hW, HO⟩, Hmw⟩ Hk
  iapply (Transfers.wp_waitLocalO countersEmb 𝒱₀ (thr d L) none (default : HIx 1) (N := creditO) rfl) $$ [Hfl HO Hmw]
  · isplitl [Hfl]; · iexact Hfl
    isplitl [HO]; · iexact HO
    iapply (Transfers.MayWaits.elim (SemLoc.dma (oSem p))) $$ Hmw
  iintro ⟨⟨Hb, Hs⟩, Hv, HO⟩
  iapply (le_wp_ret _ _ _ _ Q)
  iapply Hk
  isplitl [Hb]; · iexact Hb
  isplitl [Hs]; · iexact Hs
  isplitl [Hv]; · iexact Hv
  iapply (owed_insert d L O W hW) $$ HO

/-- A tile's share `q` of the table. -/
abbrev tblAt (q : PosShare TreeShare) : sProp 𝕄 := aLoc d ↦{q} A

/-- A gather's rows are credited one by one; together they are the whole chunk's amount. -/
theorem credit_rows {o10 : Fin 3 → ℕ} {h10} {c : Fin 2 → ℕ} {hc} :
    ∑ j, ((chunkAt o10 h10 c hc).slice (S32x128.rowRect gathers_S1024x128_S32x128.axis' j)
      (S32x128.stride_rowRect gathers_S1024x128_S32x128.axis' j)).view.dmaCredit = creditG := by
  have : ∑ j : Fin (S32x128.size gathers_S1024x128_S32x128.axis'),
      (cc0_scoped2 : Ref sig .scVector).dmaCredit (S32x128.rowShape gathers_S1024x128_S32x128.axis') .f32 = creditG := by decide
  exact this

/-- One gather with its wait: 32 more rows of the slot done. -/
theorem gather (hI : ∀ z, (I z).toNat < 1024) (p : Fin 2) {b : ℕ} (hb : b < 256) (sm : DmaSem sig) (q : PosShare TreeShare)
    {o10 : Fin 3 → ℕ} {h10} (e10 : o10 = ![p.val, 0, 0]) {o11 : Fin 3 → ℕ} {h11} (e11 : o11 = ![p.val, 0, 0]) {j : ℕ} (hj : j < 4)
    {c : Fin 2 → ℕ} {hc} (ec : c = ![32 * j, 0]) {l : Fin 2 → ℕ} {hl} (el : l = ![j, 0])
    {hn : S32.numel = S32x128.size gathers_S1024x128_S32x128.axis'} {hp hs1 hs2 hs3 he hsp hr} {Q : PUnit → sProp 𝕄} :
    iprop((∃ g, ⌜IdxOK I p b g⌝ ∗ slotI d L p g) ∗ (∃ f, ⌜RowsDone A I p b j f⌝ ∗ slotO d L p f) ∗ tblAt d A q
        ∗ semVal (thr d L, SemLoc.dma sm) 0 ∗ owed d L O W ∗ mayWaits d L O)
      ⊢ iprop((iprop((∃ g, ⌜IdxOK I p b g⌝ ∗ slotI d L p g) ∗ (∃ f, ⌜RowsDone A I p b (j + 1) f⌝ ∗ slotO d L p f) ∗ tblAt d A q
            ∗ semVal (thr d L, SemLoc.dma sm) 0 ∗ owed d L O W) -∗ Q ⟨⟩)
        -∗ wpT d L (SparseCore.enqueueIndirectGather hp tbl (chunkAt o10 h10 c hc) gathers_S1024x128_S32x128 (listAt o11 h11 l hl) hn sm hs1 he hsp hr)
            fun _ => wpT d L (SparseCore.waitIndirectGather sm tbl (chunkAt o10 h10 c hc) hs2 hs3) Q) := by
  iintro ⟨⟨%g, %hg, Hi⟩, ⟨%f, %hf, Ho⟩, Ha, Hv, ⟨%W', %hW, HO⟩, Hmw⟩ Hk
  have hin : ∀ y, ((listAt o11 h11 l hl).view.read (Elt F) g y).toNat < S1024x128.size gathers_S1024x128_S32x128.axis := fun y => by
    rw [list_in_rows I hI p hb e11 hj el g hg]; exact hI _
  ihave Hi' := (pointsTo_split_subset (list_subset p (h := h11) e11 (hc := hl))).1 $$ Hi
  icases Hi' with ⟨Hl, Hlr⟩
  ihave Ho' := (pointsTo_split_subset (chunk_subset p (h := h10) e10 (hc := hc))).1 $$ Ho
  icases Ho' with ⟨Hc, Hcr⟩
  rw [show SparseCore.enqueueIndirectGather hp tbl (chunkAt o10 h10 c hc) gathers_S1024x128_S32x128 (listAt o11 h11 l hl) hn sm hs1 he hsp hr
    = SparseCore.enqueueIndirectGather hp tbl (chunkAt o10 h10 c hc) gathers_S1024x128_S32x128 (listAt o11 h11 l hl) hn sm hs1 he hsp hr >>= Prog.ret from rfl]
  iapply (SparseCore.wp_indirectGatherLocal countersEmb 𝒱₀ (thr d L) none (hg := gathers_S1024x128_S32x128) (default : HIx 1)
      creditG credit_rows (by decide) hin (fs := A) (fd := f) (fo := g) (q := q) (qo := fullShare)) $$ [Ha Hc Hl Hv]
  · rw [tbl_set]
    isplitl [Ha]; · iexact Ha
    isplitl [Hc]; · iexact Hc
    isplitl [Hl]; · iexact Hl
    iexact Hv
  iintro Hfl
  iapply (le_wp_ret _ _ _ _ _)
  iapply (Transfers.wp_waitLocalO countersEmb 𝒱₀ (thr d L) none (default : HIx 1) (N := creditG) rfl) $$ [Hfl HO Hmw]
  · isplitl [Hfl]; · iexact Hfl
    isplitl [HO]; · iexact HO
    iapply (Transfers.MayWaits.elim (SemLoc.dma sm)) $$ Hmw
  rw [tbl_set]
  iintro ⟨⟨Hc, Ha, Hl⟩, Hv, HO⟩
  iapply (le_wp_ret _ _ _ _ Q)
  iapply Hk
  isplitl [Hl Hlr]
  · iexists g; isplitr; · ipureintro; exact hg
    iapply (pointsTo_split_subset (list_subset p (h := h11) e11 (hc := hl))).2
    isplitl [Hl]; · iexact Hl
    iexact Hlr
  isplitl [Hc Hcr]
  · iexists ((chunkAt o10 h10 c hc).view.write (Elt F) f (SparseCore.gatherPayload gathers_S1024x128_S32x128 ((tbl).view.read (Elt F) A)
        (SparseCore.rows ((listAt o11 h11 l hl).view.read (Elt F) g) hn hin)) Finset.univ)
    isplitr
    · ipureintro; exact rows_landed A I hI p hb e10 e11 hj ec el g hg f hf hn hin
    iapply (pointsTo_split_subset (chunk_subset p (h := h10) e10 (hc := hc))).2
    isplitl [Hc]; · iexact Hc
    iapply (Entails.of_eq (SparseCore.pointsTo_rest_write (c := thr d L) (v := (chunkAt o10 h10 c hc).view) f _)) $$ Hcr
  isplitl [Ha]; · iexact Ha
  isplitl [Hv]; · iexact Hv
  iapply (owed_insert d L O W hW) $$ HO

end Rules

end Cert.Proof.Gather

end

end
-- ==== Proof.Held.lean ====
/-  What a tile holds before trip `k`, block by block: the blocks of the indices at rest, and the blocks of the output,
    those before the trip done. -/
module

public import proofs.«01_k».proof.Proof.Effects

@[expose] public section

set_option Elab.async false

noncomputable section

namespace Cert.Proof.Gather

open Idealize.ShloMosaic
open Idealize.SL Idealize.SL.RA Idealize.SL.BI
open scoped Idealize.SL.BI
open Idealize.SL.BI.BIBase Idealize.SL.BI.Laws Idealize.SL.ProofMode Idealize.SL.Sem

section Held

variable {M : Type} [URA M] (B G f : ℕ → sProp M)

/-- Of eight blocks all but block `k` (which a copy has). -/
def rest (k : ℕ) : sProp M := bigSep ((Finset.range 8).erase k) B

/-- Of eight blocks all but `k` and `k + 1`. -/
def mid (k : ℕ) : sProp M := bigSep (((Finset.range 8).erase k).erase (k + 1)) B

theorem rest_step {k : ℕ} (hk : k < 7) : rest B k = iprop(B (k + 1) ∗ mid B k) :=
  SparseCore.bigSep_erase' (Finset.mem_erase.mpr ⟨by omega, Finset.mem_range.mpr (by omega)⟩)
theorem rest_stay {k : ℕ} (hk : ¬k < 7) : rest B k = mid B k := by
  unfold rest mid
  rw [Finset.erase_eq_of_notMem (a := k + 1) fun h => by have := Finset.mem_range.mp (Finset.mem_of_mem_erase h); omega]
theorem rest_back {k : ℕ} (hk : k < 8) : rest B (k + 1) = iprop(B k ∗ mid B k) := by
  unfold rest mid
  rw [Finset.erase_right_comm]
  exact SparseCore.bigSep_erase' (Finset.mem_erase.mpr ⟨by omega, Finset.mem_range.mpr hk⟩)
theorem rest_all : rest B 8 = bigSep (Finset.range 8) B := by
  unfold rest; rw [Finset.erase_eq_of_notMem (by simp)]
theorem rest_first : bigSep (Finset.range 8) B = iprop(B 0 ∗ rest B 0) := SparseCore.bigSep_erase' (by simp)

/-- The output blocks before trip `k`, all but the one on its way: those done (`G`), those still to do (`f`). -/
def outs (k : ℕ) : sProp M := bigSep ((Finset.range 8).filter fun j => j + 1 ≠ k) fun j => if j + 1 < k then G j else f j
/-- The same without block `k`. -/
def outsBut (k : ℕ) : sProp M := bigSep ((Finset.range 8).filter fun j => j ≠ k ∧ j + 1 ≠ k) fun j => if j < k then G j else f j

theorem outs_take {k : ℕ} (hk : k < 8) : outs G f k = iprop(f k ∗ outsBut G f k) := by
  unfold outs outsBut
  rw [SparseCore.bigSep_erase' (i := k) (Finset.mem_filter.mpr ⟨Finset.mem_range.mpr hk, by omega⟩), if_neg (by omega)]
  congr 1
  have hs : ((Finset.range 8).filter fun j => j + 1 ≠ k).erase k = (Finset.range 8).filter fun j => j ≠ k ∧ j + 1 ≠ k := by
    ext j; simp only [Finset.mem_erase, Finset.mem_filter]; tauto
  rw [hs]
  refine bigSep_congr fun j hj => ?_
  obtain ⟨-, h1, h2⟩ := Finset.mem_filter.mp hj
  by_cases h : j < k
  · rw [if_pos h, if_pos (by omega)]
  · rw [if_neg h, if_neg (by omega)]

theorem outs_put {k : ℕ} (hk : k < 8) (h0 : 0 < k) : outs G f (k + 1) = iprop(G (k - 1) ∗ outsBut G f k) := by
  unfold outs outsBut
  rw [SparseCore.bigSep_erase' (i := k - 1) (Finset.mem_filter.mpr ⟨Finset.mem_range.mpr (by omega), by omega⟩), if_pos (by omega)]
  congr 1
  have hs : ((Finset.range 8).filter fun j => j + 1 ≠ k + 1).erase (k - 1) = (Finset.range 8).filter fun j => j ≠ k ∧ j + 1 ≠ k := by
    ext j; simp only [Finset.mem_erase, Finset.mem_filter, Finset.mem_range]; omega
  rw [hs]
  refine bigSep_congr fun j _ => ?_
  by_cases h : j < k
  · rw [if_pos h, if_pos (by omega)]
  · rw [if_neg h, if_neg (by omega)]

theorem outs_one : outs G f 1 = outsBut G f 0 := by
  unfold outs outsBut
  have hs : ((Finset.range 8).filter fun j => j + 1 ≠ 1) = (Finset.range 8).filter fun j => j ≠ 0 ∧ j + 1 ≠ 0 := by
    ext j; simp
  rw [hs]
  exact bigSep_congr fun j hj => by simp

theorem outs_zero : outs G f 0 = bigSep (Finset.range 8) f := by
  unfold outs
  have hs : ((Finset.range 8).filter fun j => j + 1 ≠ 0) = Finset.range 8 := by ext j; simp
  rw [hs]
  exact bigSep_congr fun j hj => by simp

theorem outs_end : bigSep (Finset.range 8) G = iprop(G 7 ∗ outs G f 8) := by
  rw [SparseCore.bigSep_erase' (i := 7) (by simp)]
  refine congrArg (fun X => iprop(G 7 ∗ X)) ?_
  unfold outs
  have hs : ((Finset.range 8).filter fun j => j + 1 ≠ 8) = (Finset.range 8).erase 7 := by ext j; simp [and_comm]
  rw [hs]
  refine bigSep_congr fun j hj => ?_
  obtain ⟨h1, h2⟩ := Finset.mem_erase.mp hj
  rw [if_pos (by have := Finset.mem_range.mp h2; omega)]

end Held

end Cert.Proof.Gather

end

end
-- ==== Proof.Trip.lean ====
/-  One trip of the pipeline, and the tile's whole task. Before trip `k` the block of indices of trip `k` is on its way
    to one slot of the scratch and the rows of trip `k - 1` on their way out of the other; the trip starts the next
    block of indices, waits for its own, gathers its 128 rows in four gathers of 32, starts them out, and waits for the
    rows of the trip before. -/
module

public import proofs.«01_k».proof.Proof.Held

@[expose] public section

set_option Elab.async false

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Trip

variable (d : Dev nD) (L : grid0.Coords)
variable (A : S1024x128.Idx → Elt F .f32) (I : S1024x32.Idx → Elt F .i32) (f0 : S32768x128.Idx → Elt F .f32)
variable (q : PosShare TreeShare) (O : CellTallies nD τ sig (HIx 1)) (W : Waits sig (HIx 1))

/-- The tile's blocks: of the indices, and of the output done and not yet done. -/
abbrev tI (j : ℕ) : sProp 𝕄 := blkI d I (blk L j)
abbrev tG (j : ℕ) : sProp 𝕄 := blkO d (blk L j) (gath A I)
abbrev tF (j : ℕ) : sProp 𝕄 := blkO d (blk L j) f0

/-- The block of indices of trip `k`, on its way; after the last trip its slot is free. -/
def idxNow (k : ℕ) : sProp 𝕄 :=
  if k < 8 then loading d L I (par k) (blk L k) else iprop(freeI d L (par k) ∗ semVal (cellI d L (par k)) 0)
/-- The rows of the trip before, on their way out; before the first trip their slot is free. -/
def outPrev (k : ℕ) : sProp 𝕄 :=
  if 0 < k then storing d L A I (par (k + 1)) (blk L (k - 1)) else iprop(freeO d L (par (k + 1)) ∗ semVal (cellO d L (par (k + 1))) 0)

theorem idxNow_lt {k : ℕ} (hk : k < 8) : idxNow d L I k = loading d L I (par k) (blk L k) := if_pos hk
theorem outPrev_succ (k : ℕ) : outPrev d L A I (k + 1) = storing d L A I (par k) (blk L k) := by
  unfold outPrev
  rw [if_pos (Nat.succ_pos k), par_succ_succ, Nat.add_sub_cancel]

/-- The gathers' own semaphores, at rest. -/
abbrev gsems : sProp 𝕄 :=
  iprop(semVal (thr d L, SemLoc.dma cc0_scoped4.sem) 0 ∗ semVal (thr d L, SemLoc.dma cc0_scoped5.sem) 0
    ∗ semVal (thr d L, SemLoc.dma cc0_scoped6.sem) 0 ∗ semVal (thr d L, SemLoc.dma cc0_scoped7.sem) 0)

/-- What the tile holds before trip `k`. -/
def inv (k : ℕ) (acc : BitVec 32 × BitVec 32 × BitVec 32 × BitVec 32 × BitVec 32) : sProp 𝕄 :=
  iprop(⌜acc = carried k⌝ ∗ idxNow d L I k ∗ (freeI d L (par (k + 1)) ∗ semVal (cellI d L (par (k + 1))) 0)
    ∗ (freeO d L (par k) ∗ semVal (cellO d L (par k)) 0) ∗ outPrev d L A I k ∗ rest (tI d L I) k ∗ outs (tG d L A I) (tF d L f0) k
    ∗ tblAt d A q ∗ gsems d L ∗ owed d L O W ∗ mayWaits d L O)

variable [FloatOps F]

/-- The start of the next block of indices, skipped at the last trip. -/
theorem load_if {α : Type} {k : ℕ} {c : Prop} [Decidable c] (hc : c ↔ k < 7) {t : c → Prog (TpuEff nD τ sig (Elt F) Λ₀ (thr d L).2) PUnit}
    {p : Prog (TpuEff nD τ sig (Elt F) Λ₀ (thr d L).2) α} {Q : α → sProp 𝕄}
    (ht : ∀ h (R : PUnit → sProp 𝕄), iprop(tI d L I (k + 1) ∗ freeI d L (par (k + 1)) ∗ semVal (cellI d L (par (k + 1))) 0)
      ⊢ iprop((loading d L I (par (k + 1)) (blk L (k + 1)) -∗ R ⟨⟩) -∗ wpT d L (t h) R)) :
    iprop((freeI d L (par (k + 1)) ∗ semVal (cellI d L (par (k + 1))) 0) ∗ rest (tI d L I) k)
      ⊢ iprop((iprop(idxNow d L I (k + 1) ∗ mid (tI d L I) k) -∗ wpT d L p Q) -∗ wpT d L (if h : c then t h >>= fun _ => p else p) Q) := by
  by_cases h : c
  · have hk := hc.mp h
    rw [dif_pos h, rest_step _ hk]
    simp only [wpT, wp_bind]
    iintro ⟨⟨Hf, Hv⟩, Hb, Hm⟩ Hk
    iapply (ht h _) $$ [Hf Hv Hb]
    · isplitl [Hb]; · iexact Hb
      isplitl [Hf]; · iexact Hf
      iexact Hv
    iintro Hl
    iapply Hk
    isplitl [Hl]
    · unfold idxNow; rw [if_pos (show k + 1 < 8 by omega)]; iexact Hl
    iexact Hm
  · have hk : ¬k < 7 := fun hh => h (hc.mpr hh)
    rw [dif_neg h, rest_stay _ hk]
    iintro ⟨Hf, Hm⟩ Hk
    iapply Hk
    isplitl [Hf]
    · unfold idxNow; rw [if_neg (show ¬k + 1 < 8 by omega)]; iexact Hf
    iexact Hm

/-- The wait for the rows of the trip before, skipped at the first trip. -/
theorem store_wait_if {α : Type} {k : ℕ} (hk8 : k < 8) {c : Prop} [Decidable c] (hc : c ↔ 0 < k)
    {t : c → Prog (TpuEff nD τ sig (Elt F) Λ₀ (thr d L).2) PUnit} {p : Prog (TpuEff nD τ sig (Elt F) Λ₀ (thr d L).2) α} {Q : α → sProp 𝕄}
    (ht : ∀ h (R : PUnit → sProp 𝕄), iprop(storing d L A I (par (k + 1)) (blk L (k - 1)) ∗ owed d L O W ∗ mayWaits d L O)
      ⊢ iprop((iprop(blkO d (blk L (k - 1)) (gath A I) ∗ freeO d L (par (k + 1)) ∗ semVal (cellO d L (par (k + 1))) 0 ∗ owed d L O W)
          -∗ R ⟨⟩) -∗ wpT d L (t h) R)) :
    iprop(outPrev d L A I k ∗ outsBut (tG d L A I) (tF d L f0) k ∗ owed d L O W ∗ mayWaits d L O)
      ⊢ iprop((iprop((freeO d L (par (k + 1)) ∗ semVal (cellO d L (par (k + 1))) 0) ∗ outs (tG d L A I) (tF d L f0) (k + 1) ∗ owed d L O W)
          -∗ wpT d L p Q) -∗ wpT d L (if h : c then t h >>= fun _ => p else p) Q) := by
  unfold outPrev
  by_cases h : c
  · have hk := hc.mp h
    rw [dif_pos h, if_pos hk, outs_put _ _ hk8 hk]
    simp only [wpT, wp_bind]
    iintro ⟨Hs, Hr, HO, Hmw⟩ Hk
    iapply (ht h _) $$ [Hs HO Hmw]
    · isplitl [Hs]; · iexact Hs
      isplitl [HO]; · iexact HO
      iexact Hmw
    iintro ⟨Hb, Hf, Hv, HO⟩
    iapply Hk
    isplitl [Hf Hv]
    · isplitl [Hf]; · iexact Hf
      iexact Hv
    isplitl [Hb Hr]
    · isplitl [Hb]; · iexact Hb
      iexact Hr
    iexact HO
  · have hk : ¬0 < k := fun hh => h (hc.mpr hh)
    obtain rfl : k = 0 := by omega
    rw [dif_neg h, if_neg hk, show (0 : ℕ) + 1 = 1 from rfl, outs_one]
    iintro ⟨Hf, Hr, HO, -⟩ Hk
    iapply Hk
    isplitl [Hf]; · iexact Hf
    isplitl [Hr]; · iexact Hr
    iexact HO

/-- A check that holds. -/
theorem checked {P : Prop} {dec : Decidable P} (h : P) {Q : PLift P → sProp 𝕄} :
    Q ⟨h⟩ ⊢ wpT d L (Prog.lift (.assume P dec)) Q := by
  iintro H
  iapply (wp_assume 𝒱₀ (thr d L) none Set.univ h)
  iapply (le_wp_ret _ _ _ _ Q)
  iexact H

theorem rows_none (p : Fin 2) (b : ℕ) (f : S2x128x128.Idx → Elt F .f32) : RowsDone A I p b 0 f := fun _ _ _ h => by omega

set_option maxHeartbeats 400000 in
theorem trip (hI : ∀ z, (I z).toNat < 1024) (k : Fin k0_t1_loop.trips) (acc : BitVec 32 × BitVec 32 × BitVec 32 × BitVec 32 × BitVec 32) :
    inv d L A I f0 q O W k acc
      ⊢ wpT d L (k0_t1_body L (Memref.whole main_arg0_scv) (Memref.isWhole_whole _) (Memref.whole main_arg1_scv) (Memref.isWhole_whole _)
          (Memref.whole main_v0_scv) (Memref.isWhole_whole _) (Memref.whole cc0_scoped0) (Memref.isWhole_whole _) cc0_scoped1
          (Memref.whole cc0_scoped2) (Memref.isWhole_whole _) cc0_scoped3 cc0_scoped4 cc0_scoped5 cc0_scoped6 cc0_scoped7 (firstBlk L) k acc)
        (inv d L A I f0 q O W (k.val + 1)) := by
  have hk : k.val < 8 := trips_eq ▸ k.isLt
  unfold inv
  obtain ⟨a6, a7, a8, a9, a10⟩ := acc
  iintro ⟨%hacc, Hnow, Hfi, ⟨Hfo, Hvo⟩, Hprev, Hrest, Houts, Ha, ⟨Hg0, Hg1, Hg2, Hg3⟩, HO, #Hmw⟩
  have h6 : a6 = (carried k).1 := congrArg (·.1) hacc
  have h7 : a7 = (carried k).2.1 := congrArg (·.2.1) hacc
  have h8 : a8 = (carried k).2.2.1 := congrArg (·.2.2.1) hacc
  have h9 : a9 = (carried k).2.2.2.1 := congrArg (·.2.2.2.1) hacc
  have h10 : a10 = (carried k).2.2.2.2 := congrArg (·.2.2.2.2) hacc
  clear hacc
  subst h6 h7 h8 h9 h10
  unfold k0_t1_body
  simp only [k0_part1_eq_skeleton, k0_part2_eq_skeleton, k0_part3_eq_skeleton, k0_part4_eq_skeleton, k0_part1_skel, k0_part2_skel, k0_part3_skel,
    k0_part4_skel, wp_bind, pure_bind, bind_assoc, ite_self, dif_pos (cond2 L k), dif_pos (cond5 L k)]
  iapply (checked d L (chk3 k))
  iapply (checked d L (chk2 k))
  iapply (checked d L (chk1 L k))
  iapply (load_if d L I (cond1 L k) ?_) $$ [Hfi Hrest]
  rotate_left
  · isplitl [Hfi]; · iexact Hfi
    iexact Hrest
  rotate_left
  · intro h R
    have h7 := (cond1 L k).mp h
    exact start_load d L I (par (k + 1)) (blk L (k + 1)) (off4 k h7) (off5 L k h7) (off6 k h7)
  iintro ⟨Hnext, Hmid⟩
  iapply (le_wp_ret _ _ _ _ _)
  iapply (end_load d L I O W (par k) (blk L k) (off9 k)) $$ [Hnow HO]
  · isplitl [Hnow]; · iapply (Entails.of_eq (idxNow_lt d L I hk)) $$ Hnow
    isplitl [HO]; · iexact HO
    iexact Hmw
  iintro ⟨Hi, Hb, Hvi, HO⟩
  icases Hfo with ⟨%f, Ho⟩
  iapply (gather d L A I O W hI (par k) (blk_lt L hk) cc0_scoped4.sem q (off10 k) (off11 k) (j := 0) (by decide) rfl rfl) $$ [Hi Ho Ha Hg0 HO]
  · isplitl [Hi]; · iexact Hi
    isplitl [Ho]
    · iexists f; isplitr; · ipureintro; exact rows_none A I _ _ f
      iexact Ho
    isplitl [Ha]; · iexact Ha
    isplitl [Hg0]; · iexact Hg0
    isplitl [HO]; · iexact HO
    iexact Hmw
  iintro ⟨Hi, Ho, Ha, Hg0, HO⟩
  iapply (gather d L A I O W hI (par k) (blk_lt L hk) cc0_scoped5.sem q (off10 k) (off11 k) (j := 1) (by decide) rfl rfl) $$ [Hi Ho Ha Hg1 HO]
  · isplitl [Hi]; · iexact Hi
    isplitl [Ho]; · iexact Ho
    isplitl [Ha]; · iexact Ha
    isplitl [Hg1]; · iexact Hg1
    isplitl [HO]; · iexact HO
    iexact Hmw
  iintro ⟨Hi, Ho, Ha, Hg1, HO⟩
  iapply (gather d L A I O W hI (par k) (blk_lt L hk) cc0_scoped6.sem q (off10 k) (off11 k) (j := 2) (by decide) rfl rfl) $$ [Hi Ho Ha Hg2 HO]
  · isplitl [Hi]; · iexact Hi
    isplitl [Ho]; · iexact Ho
    isplitl [Ha]; · iexact Ha
    isplitl [Hg2]; · iexact Hg2
    isplitl [HO]; · iexact HO
    iexact Hmw
  iintro ⟨Hi, Ho, Ha, Hg2, HO⟩
  iapply (gather d L A I O W hI (par k) (blk_lt L hk) cc0_scoped7.sem q (off10 k) (off11 k) (j := 3) (by decide) rfl rfl) $$ [Hi Ho Ha Hg3 HO]
  · isplitl [Hi]; · iexact Hi
    isplitl [Ho]; · iexact Ho
    isplitl [Ha]; · iexact Ha
    isplitl [Hg3]; · iexact Hg3
    isplitl [HO]; · iexact HO
    iexact Hmw
  iintro ⟨⟨%g, %_, Hi⟩, ⟨%f', %hf', Ho⟩, Ha, Hg3, HO⟩
  ihave Hsplit := (Entails.of_eq (outs_take (tG d L A I) (tF d L f0) hk)) $$ Houts
  icases Hsplit with ⟨Hbo, Hbut⟩
  iapply (start_store d L A I (par k) (blk L k) (off12 k) (off13 L k) (off14 k) f' hf' f0) $$ [Ho Hbo Hvo]
  · isplitl [Ho]; · iexact Ho
    isplitl [Hbo]; · iexact Hbo
    iexact Hvo
  iintro Hst
  iapply (store_wait_if d L A I f0 O W hk (cond7 L k) ?_) $$ [Hprev Hbut HO]
  rotate_left
  · isplitl [Hprev]; · iexact Hprev
    isplitl [Hbut]; · iexact Hbut
    isplitl [HO]; · iexact HO
    iexact Hmw
  rotate_left
  · intro h R
    exact end_store d L A I O W (par (k + 1)) (blk L (k - 1)) (off17 k ((cond7 L k).mp h))
  iintro ⟨Hfo, Houts, HO⟩
  iapply (le_wp_ret _ _ _ _ _)
  isplitr; · ipureintro; exact computed_eq L k
  isplitl [Hnext]; · iexact Hnext
  rw [par_succ_succ, outPrev_succ, rest_back _ hk]
  isplitl [Hi Hvi]
  · isplitl [Hi]; · iexists g; iexact Hi
    iexact Hvi
  isplitl [Hfo]; · iexact Hfo
  isplitl [Hst]; · iexact Hst
  isplitl [Hb Hmid]
  · isplitl [Hb]; · iexact Hb
    iexact Hmid
  isplitl [Houts]; · iexact Houts
  isplitl [Ha]; · iexact Ha
  isplitl [Hg0 Hg1 Hg2 Hg3]
  · isplitl [Hg0]; · iexact Hg0
    isplitl [Hg1]; · iexact Hg1
    isplitl [Hg2]; · iexact Hg2
    iexact Hg3
  isplitl [HO]; · iexact HO
  iexact Hmw

end Trip

end Cert.Proof.Gather

end

end
-- ==== Proof.Task.lean ====
/-  The tile's whole task: the first block of indices started, the eight trips, the last block of rows waited for. -/
module

public import proofs.«01_k».proof.Proof.Trip

@[expose] public section

set_option Elab.async false

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Task

variable (d : Dev nD) (L : grid0.Coords)
variable (A : S1024x128.Idx → Elt F .f32) (I : S1024x32.Idx → Elt F .i32) (f0 : S32768x128.Idx → Elt F .f32)
variable (q : PosShare TreeShare) (O : CellTallies nD τ sig (HIx 1)) (W : Waits sig (HIx 1))

/-- The tile's scratch slots and semaphores, at rest. -/
abbrev idle : sProp 𝕄 :=
  iprop((freeI d L (par 0) ∗ semVal (cellI d L (par 0)) 0) ∗ (freeI d L (par 1) ∗ semVal (cellI d L (par 1)) 0)
    ∗ (freeO d L (par 0) ∗ semVal (cellO d L (par 0)) 0) ∗ (freeO d L (par 1) ∗ semVal (cellO d L (par 1)) 0) ∗ gsems d L)

theorem outPrev_zero : outPrev d L A I 0 = iprop(freeO d L (par 1) ∗ semVal (cellO d L (par 1)) 0) := if_neg (by decide)
theorem idxNow_end : idxNow d L I 8 = iprop(freeI d L (par 0) ∗ semVal (cellI d L (par 0)) 0) := if_neg (by decide)
theorem outPrev_end : outPrev d L A I 8 = storing d L A I (par 9) (blk L 7) := if_pos (by decide)

/-- The tile's blocks and its share of the table: before, and after. -/
abbrev tileIn : sProp 𝕄 :=
  iprop(bigSep (Finset.range 8) (tI d L I) ∗ bigSep (Finset.range 8) (tF d L f0) ∗ tblAt d A q)
abbrev tileOut : sProp 𝕄 :=
  iprop(bigSep (Finset.range 8) (tI d L I) ∗ bigSep (Finset.range 8) (tG d L A I) ∗ tblAt d A q)

variable [FloatOps F]

theorem task (hI : ∀ z, (I z).toNat < 1024) :
    iprop(tileIn d L A I f0 q ∗ idle d L ∗ owed d L O W ∗ mayWaits d L O)
      ⊢ wpT d L (cc0_kern L (Memref.whole main_arg0_scv) (Memref.isWhole_whole _) (Memref.whole main_arg1_scv) (Memref.isWhole_whole _)
          (Memref.whole main_v0_scv) (Memref.isWhole_whole _) (Memref.whole cc0_scoped0) (Memref.isWhole_whole _) cc0_scoped1
          (Memref.whole cc0_scoped2) (Memref.isWhole_whole _) cc0_scoped3 cc0_scoped4 cc0_scoped5 cc0_scoped6 cc0_scoped7)
        fun _ => iprop(tileOut d L A I q ∗ idle d L ∗ owed d L O W) := by
  iintro ⟨⟨HI, HF, Ha⟩, ⟨⟨Hf0, Hv0⟩, Hi1, Ho0, Ho1, Hg⟩, HO, #Hmw⟩
  simp only [cc0_kern_eq_skeleton, cc0_kern_skel, k0_part5_eq_skeleton, k0_part6_eq_skeleton, k0_part5_skel, k0_part6_skel, wp_bind, pure_bind, bind_assoc]
  ihave HI' := (Entails.of_eq (rest_first (tI d L I))) $$ HI
  icases HI' with ⟨Hb, Hrest⟩
  iapply (start_load d L I (par 0) (blk L 0) off1 (off2 L) off3) $$ [Hb Hf0 Hv0]
  · isplitl [Hb]; · iexact Hb
    isplitl [Hf0]; · iexact Hf0
    iexact Hv0
  iintro Hl
  iapply (Scf.wp_for frame (wpE (defs₀ (F := F)) 𝒱₀ (thr d L) none) Set.univ k0_t1_loop.lb k0_t1_loop.ub k0_t1_loop.st k0_t1_ok _ _
    (inv d L A I f0 q O W) (trip d L A I f0 q O W hI))
  isplitl [Hl Hi1 Ho0 Ho1 Hg HO Ha HF Hrest]
  · unfold inv
    isplitr; · ipureintro; exact carried_zero.symm
    isplitl [Hl]; · iapply (Entails.of_eq (idxNow_lt d L I (by decide : 0 < 8)).symm) $$ Hl
    isplitl [Hi1]; · iexact Hi1
    isplitl [Ho0]; · iexact Ho0
    isplitl [Ho1]; · iapply (Entails.of_eq (outPrev_zero d L A I).symm) $$ Ho1
    isplitl [Hrest]; · iexact Hrest
    isplitl [HF]; · iapply (Entails.of_eq (outs_zero (tG d L A I) (tF d L f0)).symm) $$ HF
    isplitl [Ha]; · iexact Ha
    isplitl [Hg]; · iexact Hg
    isplitl [HO]; · iexact HO
    iexact Hmw
  iintro %acc Hinv
  rw [show Scf.trips k0_t1_loop.lb k0_t1_loop.ub k0_t1_loop.st = 8 from trips_eq]
  unfold inv
  icases Hinv with ⟨%hacc, Hnow, Hi1, Ho0, Hprev, Hrest, Houts, Ha, Hg, HO, -⟩
  obtain ⟨a6, a7, a8, a9, a10⟩ := acc
  have h9 : a9 = (carried 8).2.2.2.1 := congrArg (·.2.2.2.1) hacc
  have h10 : a10 = (carried 8).2.2.2.2 := congrArg (·.2.2.2.2) hacc
  clear hacc
  subst h9 h10
  iapply (checked d L (chk5 L))
  iapply (checked d L chk4)
  iapply (end_store d L A I O W (par 9) (blk L 7) off20) $$ [Hprev HO]
  · isplitl [Hprev]; · iapply (Entails.of_eq (outPrev_end d L A I)) $$ Hprev
    isplitl [HO]; · iexact HO
    iexact Hmw
  iintro ⟨Hb, Hf, Hv, HO⟩
  iapply (le_wp_ret _ _ _ _ _)
  isplitl [Hrest Hb Houts Ha]
  · isplitl [Hrest]; · iapply (Entails.of_eq (rest_all (tI d L I))) $$ Hrest
    isplitl [Hb Houts]
    · iapply (Entails.of_eq (outs_end (tG d L A I) (tF d L f0)).symm)
      isplitl [Hb]; · iexact Hb
      iexact Houts
    iexact Ha
  isplitr [HO]
  · isplitl [Hnow]; · iapply (Entails.of_eq (idxNow_end d L I)) $$ Hnow
    isplitl [Hi1]; · iexact Hi1
    isplitl [Ho0]; · iexact Ho0
    isplitl [Hf Hv]
    · isplitl [Hf]; · iexact Hf
      iexact Hv
    iexact Hg
  iexact HO

end Task

end Cert.Proof.Gather

end

end
-- ==== Proof.Pieces.lean ====
/-  The arrays in pieces. The indices and the output are 256 blocks, eight to each of the 32 tiles; the table is read by
    all the tiles, each at a share of its own. A tile's scratch is its two slots. -/
module

public import proofs.«01_k».proof.Proof.Task
public import Idealize.ShloMosaic.Lib.SparseCore.Stream

@[expose] public section

set_option Elab.async false

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Runs of numbers -/

section Runs

variable {M : Type} [URA M]

theorem bigSep_fin_range (n : ℕ) (Φ : ℕ → sProp M) : (bigSep Finset.univ fun i : Fin n => Φ i.val) = bigSep (Finset.range n) Φ := by
  have h : Finset.range n = (Finset.univ : Finset (Fin n)).image Fin.val := by
    ext x; simp only [Finset.mem_range, Finset.mem_image, Finset.mem_univ, true_and]
    exact ⟨fun h => ⟨⟨x, h⟩, rfl⟩, fun ⟨y, e⟩ => e ▸ y.isLt⟩
  rw [h, SparseCore.bigSep_image_of_injOn (fun a _ b _ e => Fin.ext e)]

theorem swap (P Q : sProp M) : iprop(P ∗ Q) = iprop(Q ∗ P) := by
  have h : ∀ P Q : sProp M, iprop(P ∗ Q) ⊢ iprop(Q ∗ P) := by
    intro P Q
    iintro ⟨Ha, Hb⟩
    isplitl [Hb]; · iexact Hb
    iexact Ha
  exact Entails.antisymm (h P Q) (h Q P)

/-- A run of `n·m` numbers is `n` runs of `m`. -/
theorem bigSep_runs (n m : ℕ) (Φ : ℕ → sProp M) :
    bigSep (Finset.range (n * m)) Φ = bigSep (Finset.range n) fun a => bigSep (Finset.range m) fun j => Φ (m * a + j) := by
  induction n with
  | zero => rw [Nat.zero_mul, Finset.range_zero, bigSep_empty, bigSep_empty]
  | succ n ih =>
    have h : Finset.range ((n + 1) * m) = Finset.range (n * m) ∪ (Finset.range m).image (fun j => m * n + j) := by
      ext x; simp only [Finset.mem_union, Finset.mem_range, Finset.mem_image]
      constructor
      · intro hx
        by_cases h : x < n * m
        · exact .inl h
        · refine .inr ⟨x - m * n, ?_, ?_⟩
          · have : (n + 1) * m = n * m + m := Nat.succ_mul n m
            have : m * n = n * m := Nat.mul_comm _ _
            omega
          · have : m * n = n * m := Nat.mul_comm _ _
            omega
      · have h1 : (n + 1) * m = n * m + m := Nat.succ_mul n m
        have h2 : m * n = n * m := Nat.mul_comm _ _
        rintro (h | ⟨j, hj, rfl⟩) <;> omega
    have hd : Disjoint (Finset.range (n * m)) ((Finset.range m).image (fun j => m * n + j)) := by
      rw [Finset.disjoint_left]
      intro x hx hx'
      obtain ⟨j, -, rfl⟩ := Finset.mem_image.mp hx'
      have h1 := Finset.mem_range.mp hx
      have h2 : m * n = n * m := Nat.mul_comm _ _
      omega
    rw [h, SparseCore.bigSep_union' hd, SparseCore.bigSep_image_of_injOn (fun a _ b _ e => by simpa using e), ih, Finset.range_add_one,
      SparseCore.bigSep_insert' Finset.notMem_range_self]
    exact swap _ _

theorem rotate (P Q R : sProp M) : iprop(P ∗ Q ∗ R) = iprop(Q ∗ R ∗ P) := by
  have h1 : iprop(P ∗ Q ∗ R) ⊢ iprop(Q ∗ R ∗ P) := by
    iintro ⟨Ha, Hi, Ho⟩
    isplitl [Hi]; · iexact Hi
    isplitl [Ho]; · iexact Ho
    iexact Ha
  have h2 : iprop(Q ∗ R ∗ P) ⊢ iprop(P ∗ Q ∗ R) := by
    iintro ⟨Hi, Ho, Ha⟩
    isplitl [Ha]; · iexact Ha
    isplitl [Hi]; · iexact Hi
    iexact Ho
  exact Entails.antisymm h1 h2

end Runs

variable {F : FTy → Type}

local notation "𝕄" => MT nD τ sig (HIx 1) (Elt F) ℕ UU ℕ

variable (d : Dev nD) (A : S1024x128.Idx → Elt F .f32) (I : S1024x32.Idx → Elt F .i32)

/-! ## Blocks -/

theorem iBlk_disjoint : ∀ b ∈ Finset.range 256, ∀ b' ∈ Finset.range 256, b ≠ b' → Disjoint (iBlkSet b) (iBlkSet b') := by
  intro b _ b' _ h
  rw [Finset.disjoint_left]; intro x hx hx'
  exact h ((Finset.mem_filter.mp hx).2.symm.trans (Finset.mem_filter.mp hx').2)
theorem oBlk_disjoint : ∀ b ∈ Finset.range 256, ∀ b' ∈ Finset.range 256, b ≠ b' → Disjoint (oBlkSet b) (oBlkSet b') := by
  intro b _ b' _ h
  rw [Finset.disjoint_left]; intro x hx hx'
  exact h ((Finset.mem_filter.mp hx).2.symm.trans (Finset.mem_filter.mp hx').2)
theorem iBlk_cover : (Finset.range 256).biUnion iBlkSet = Finset.univ := by
  ext x; simp only [Finset.mem_biUnion, Finset.mem_univ, iff_true]
  have h : (x 0 : ℕ) < 1024 := (x 0).isLt
  exact ⟨(x 0 : ℕ) / 4, Finset.mem_range.mpr (by omega), Finset.mem_filter.mpr ⟨Finset.mem_univ _, rfl⟩⟩
theorem oBlk_cover : (Finset.range 256).biUnion oBlkSet = Finset.univ := by
  ext x; simp only [Finset.mem_biUnion, Finset.mem_univ, iff_true]
  have h : (x 0 : ℕ) < 32768 := (x 0).isLt
  exact ⟨(x 0 : ℕ) / 128, Finset.mem_range.mpr (by omega), Finset.mem_filter.mpr ⟨Finset.mem_univ _, rfl⟩⟩

theorem indices_blocks : (iLoc d ↦{fullShare} I : sProp 𝕄) = bigSep (Finset.range 32) fun t => bigSep (Finset.range 8) fun j => blkI d I (8 * t + j) := by
  rw [← bigSep_runs 32 8 (fun b => blkI d I b), ← pointsTo_biUnion (Finset.range 256) (ℓ := iLoc d) iBlkSet iBlk_disjoint, iBlk_cover]
  try rfl
theorem output_blocks (f : S32768x128.Idx → Elt F .f32) :
    (oLoc d ↦{fullShare} f : sProp 𝕄) = bigSep (Finset.range 32) fun t => bigSep (Finset.range 8) fun j => blkO d (8 * t + j) f := by
  rw [← bigSep_runs 32 8 (fun b => blkO d b f), ← pointsTo_biUnion (Finset.range 256) (ℓ := oLoc d) oBlkSet oBlk_disjoint, oBlk_cover]
  try rfl

/-- Tile `t`'s share of the table. -/
def shareOf (t : ℕ) : PosShare TreeShare := if h : t < 32 then Idealize.ShloMosaic.pieceOf fullShare 32 (by decide) ⟨t, h⟩ else fullShare

theorem table_shares : (aLoc d ↦{fullShare} A : sProp 𝕄) = bigSep (Finset.range 32) fun t => tblAt d A (shareOf t) := by
  rw [← bigSep_fin_range 32 (fun t => (tblAt d A (shareOf t) : sProp 𝕄))]
  refine (Idealize.ShloMosaic.pointsTo_piecesOf (ℓ := aLoc d) Finset.univ A (o := 32) (by decide) fullShare).trans ?_
  refine bigSep_congr fun j _ => ?_
  unfold tblAt shareOf
  rw [dif_pos j.isLt]

/-- What tile `t` is given, the output at `f`; it gives it back with the output gathered. -/
def tileHas (f : S32768x128.Idx → Elt F .f32) (t : ℕ) : sProp 𝕄 :=
  iprop((bigSep (Finset.range 8) fun j => blkI d I (8 * t + j)) ∗ (bigSep (Finset.range 8) fun j => blkO d (8 * t + j) f) ∗ tblAt d A (shareOf t))

theorem tileHas_in (L : grid0.Coords) (f : S32768x128.Idx → Elt F .f32) : tileHas d A I f (tile L) = tileIn d L A I f (shareOf (tile L)) := rfl
theorem tileHas_out (L : grid0.Coords) : tileHas d A I (gath A I) (tile L) = tileOut d L A I (shareOf (tile L)) := rfl

/-- The three arrays are what the two SparseCores' sixteen tiles have. -/
theorem arrays_tiles (f : S32768x128.Idx → Elt F .f32) :
    (iprop((aLoc d ↦{fullShare} A) ∗ (iLoc d ↦{fullShare} I) ∗ (oLoc d ↦{fullShare} f)) : sProp 𝕄)
      = bigSep Finset.univ fun c : Fin 2 => bigSep Finset.univ fun i : Fin 16 => tileHas d A I f (i.val + 16 * c.val) := by
  have h1 : (fun c : Fin 2 => bigSep Finset.univ fun i : Fin 16 => tileHas d A I f (i.val + 16 * c.val))
      = fun c : Fin 2 => bigSep (Finset.range 16) fun i => tileHas d A I f (16 * c.val + i) := by
    funext c
    rw [bigSep_fin_range 16 (fun i => tileHas d A I f (i + 16 * c.val))]
    exact bigSep_congr fun i _ => by rw [Nat.add_comm]
  rw [h1, bigSep_fin_range 2 (fun c => bigSep (Finset.range 16) fun i => tileHas d A I f (16 * c + i)), ← bigSep_runs 2 16 (fun t => tileHas d A I f t)]
  unfold tileHas
  rw [bigSep_sep', bigSep_sep', ← indices_blocks d I, ← output_blocks d f, ← table_shares d A]
  exact rotate _ _ _

/-! ## Slots -/

variable (L : grid0.Coords)

theorem iSlot_disjoint : ∀ p ∈ (Finset.univ : Finset (Fin 2)), ∀ p' ∈ (Finset.univ : Finset (Fin 2)), p ≠ p' → Disjoint (iSlotSet p) (iSlotSet p') := by
  intro p _ p' _ h
  rw [Finset.disjoint_left]; intro x hx hx'
  exact h (Fin.ext ((Finset.mem_filter.mp hx).2.symm.trans (Finset.mem_filter.mp hx').2))
theorem oSlot_disjoint : ∀ p ∈ (Finset.univ : Finset (Fin 2)), ∀ p' ∈ (Finset.univ : Finset (Fin 2)), p ≠ p' → Disjoint (oSlotSet p) (oSlotSet p') := by
  intro p _ p' _ h
  rw [Finset.disjoint_left]; intro x hx hx'
  exact h (Fin.ext ((Finset.mem_filter.mp hx).2.symm.trans (Finset.mem_filter.mp hx').2))
theorem iSlot_cover : (Finset.univ : Finset (Fin 2)).biUnion iSlotSet = Finset.univ := by
  ext x; simp only [Finset.mem_biUnion, Finset.mem_univ, iff_true]
  exact ⟨x 0, trivial, Finset.mem_filter.mpr ⟨Finset.mem_univ _, rfl⟩⟩
theorem oSlot_cover : (Finset.univ : Finset (Fin 2)).biUnion oSlotSet = Finset.univ := by
  ext x; simp only [Finset.mem_biUnion, Finset.mem_univ, iff_true]
  exact ⟨x 0, trivial, Finset.mem_filter.mpr ⟨Finset.mem_univ _, rfl⟩⟩

theorem slotsI_split : (iprop(∃ g, (thr d L).loc cc0_scoped0 ↦{fullShare} g) : sProp 𝕄) ⊢ iprop(freeI d L (par 0) ∗ freeI d L (par 1)) := by
  iintro ⟨%g, H⟩
  ihave H' := (Entails.of_eq (show ((thr d L).loc cc0_scoped0 ↦{fullShare} g : sProp 𝕄) = iprop(slotI d L (par 0) g ∗ slotI d L (par 1) g) by
    rw [← iSlot_cover, pointsTo_biUnion Finset.univ (ℓ := (thr d L).loc cc0_scoped0) iSlotSet iSlot_disjoint, bigSep_fin_two]; rfl)) $$ H
  icases H' with ⟨H0, H1⟩
  isplitl [H0] <;> (iexists g; iassumption)
theorem slotsO_split : (iprop(∃ g, (thr d L).loc cc0_scoped2 ↦{fullShare} g) : sProp 𝕄) ⊢ iprop(freeO d L (par 0) ∗ freeO d L (par 1)) := by
  iintro ⟨%g, H⟩
  ihave H' := (Entails.of_eq (show ((thr d L).loc cc0_scoped2 ↦{fullShare} g : sProp 𝕄) = iprop(slotO d L (par 0) g ∗ slotO d L (par 1) g) by
    rw [← oSlot_cover, pointsTo_biUnion Finset.univ (ℓ := (thr d L).loc cc0_scoped2) oSlotSet oSlot_disjoint, bigSep_fin_two]; rfl)) $$ H
  icases H' with ⟨H0, H1⟩
  isplitl [H0] <;> (iexists g; iassumption)

theorem slotsI_join : iprop(freeI d L (par 0) ∗ freeI d L (par 1)) ⊢ (iprop(∃ g, (thr d L).loc cc0_scoped0 ↦{fullShare} g) : sProp 𝕄) := by
  iintro ⟨⟨%g0, H0⟩, ⟨%g1, H1⟩⟩
  have hj := pointsTo_biUnion_join (ℓ := (thr d L).loc cc0_scoped0) (q := fullShare) (Val := Elt F) (nD := nD) (τ := τ) (sig := sig) (Ix := HIx 1) (Name := ℕ) (U := UU) (Lvl := ℕ)
    Finset.univ iSlotSet (fun p => if p = 0 then g0 else g1) g0 iSlot_disjoint
  rw [bigSep_fin_two] at hj
  ihave H := ((show iprop(slotI d L (par 0) g0 ∗ slotI d L (par 1) g1) ⊢ _ from hj)) $$ [H0 H1]
  · isplitl [H0]; · iexact H0
    iexact H1
  icases H with ⟨%g, -, H⟩
  rw [iSlot_cover]
  iexists g; iexact H
theorem slotsO_join : iprop(freeO d L (par 0) ∗ freeO d L (par 1)) ⊢ (iprop(∃ g, (thr d L).loc cc0_scoped2 ↦{fullShare} g) : sProp 𝕄) := by
  iintro ⟨⟨%g0, H0⟩, ⟨%g1, H1⟩⟩
  have hj := pointsTo_biUnion_join (ℓ := (thr d L).loc cc0_scoped2) (q := fullShare) (Val := Elt F) (nD := nD) (τ := τ) (sig := sig) (Ix := HIx 1) (Name := ℕ) (U := UU) (Lvl := ℕ)
    Finset.univ oSlotSet (fun p => if p = 0 then g0 else g1) g0 oSlot_disjoint
  rw [bigSep_fin_two] at hj
  ihave H := ((show iprop(slotO d L (par 0) g0 ∗ slotO d L (par 1) g1) ⊢ _ from hj)) $$ [H0 H1]
  · isplitl [H0]; · iexact H0
    iexact H1
  icases H with ⟨%g, -, H⟩
  rw [oSlot_cover]
  iexists g; iexact H

end Cert.Proof.Gather

end

end
-- ==== Proof.Launch.lean ====
/-  The launch: each tile's task under the handshake's contract, the arrays dealt to the tiles and gathered again, and
    the run of the whole program — over any values of the floats. -/
module

public import proofs.«01_k».proof.Proof.Pieces
public import Idealize.ShloMosaic.Lib.SparseCore.Quiescent

@[expose] public section

set_option Elab.async false

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Tile

variable (d : Dev nD) (L : grid0.Coords)

/-! ## A subcore's own semaphores and buffers -/

/-- The eight transfer semaphores of the thread. -/
def dcells : Finset (GSem nD τ sig) := (Finset.univ : Finset (Fin 8)).image fun p => (thr d L, SemLoc.dma (sig := sig) p)

theorem dcells_own : dcells d L ⊆ ownCells (thr d L) := by
  intro g hg
  obtain ⟨p, -, rfl⟩ := Finset.mem_image.mp hg
  exact (mem_ownCells (g := (thr d L, SemLoc.dma (sig := sig) p))).mpr ⟨rfl, (show ∀ p : Fin 8, (SemLoc.dma p : SemLoc sig).isScoped .scVector = true by decide) p⟩

/-- The thread's own semaphores: those of the two slots of either side, the gathers', and the rest. -/
theorem sems_split :
    (ownSems0 (thr d L) : sProp 𝕄)
      = iprop((semVal (cellI d L (par 0)) 0 ∗ semVal (cellI d L (par 1)) 0 ∗ semVal (cellO d L (par 0)) 0 ∗ semVal (cellO d L (par 1)) 0
          ∗ gsems d L) ∗ bigSep (ownCells (thr d L) \ dcells d L) fun g => semVal g 0) := by
  unfold SparseCore.Cfg.ownSems0
  have h : ownCells (thr d L) = dcells d L ∪ (ownCells (thr d L) \ dcells d L) := (Finset.union_sdiff_of_subset (dcells_own d L)).symm
  rw [show (bigSep (ownCells (thr d L)) fun g => semVal g 0 : sProp 𝕄)
    = bigSep (dcells d L ∪ (ownCells (thr d L) \ dcells d L)) fun g => semVal g 0 from congrArg (fun S => (bigSep S fun g => semVal g 0 : sProp 𝕄)) h]
  rw [SparseCore.bigSep_union' Finset.disjoint_sdiff]
  unfold dcells
  rw [SparseCore.bigSep_image_of_injOn (fun a _ b _ e => by simpa using e), show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The thread's own buffers: the index scratch, the output scratch, and the rest. -/
theorem bufs_split :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

variable [FloatOps F]
variable (A : S1024x128.Idx → Elt F .f32) (I : S1024x32.Idx → Elt F .i32) (f0 : S32768x128.Idx → Elt F .f32)

/-- The task under what its launch hands it. -/
theorem tile_body (hF : (K (F := F)).Facts) (q : PosShare TreeShare) (hI : ∀ z, (I z).toNat < 1024)
    (O : CellTallies nD τ sig (HIx 1)) (W : Waits sig (HIx 1)) (hO : ∀ g, O g none = 0) :
    iprop(levAts (K (F := F)).L (K (F := F)).lev ∗ emp ∗ tileIn d L A I f0 q
        ∗ scopedBufs (thr d L) ∗ scopedSems0 (thr d L) ∗ owes (thr d L) O W)
      ⊢ wpT d L (cc0_kern L (Memref.whole main_arg0_scv) (Memref.isWhole_whole _) (Memref.whole main_arg1_scv) (Memref.isWhole_whole _)
          (Memref.whole main_v0_scv) (Memref.isWhole_whole _) (Memref.whole cc0_scoped0) (Memref.isWhole_whole _) cc0_scoped1
          (Memref.whole cc0_scoped2) (Memref.isWhole_whole _) cc0_scoped3 cc0_scoped4 cc0_scoped5 cc0_scoped6 cc0_scoped7)
        fun _ => iprop(tileOut d L A I q ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), sems_split, bufs_split]
  iintro ⟨#Hlv, -, Hin, ⟨Hi, Ho, Hbufs⟩, ⟨⟨HvI0, HvI1, HvO0, HvO1, Hg⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (slotsI_split d L) $$ Hi
  ihave Ho' := (slotsO_split d L) $$ Ho
  icases Hi' with ⟨Hi0, Hi1⟩
  icases Ho' with ⟨Ho0, Ho1⟩
  iapply (wp_wand frame (wpE (defs₀ (F := F)) 𝒱₀ (thr d L) none) Set.univ) $$ [Hin Hi0 Hi1 Ho0 Ho1 HvI0 HvI1 HvO0 HvO1 Hg HO Hmw]
  · iapply (task d L A I f0 q O W hI)
    isplitl [Hin]; · iexact Hin
    isplitl [Hi0 Hi1 Ho0 Ho1 HvI0 HvI1 HvO0 HvO1 Hg]
    · isplitl [Hi0 HvI0]; · isplitl [Hi0] <;> iassumption
      isplitl [Hi1 HvI1]; · isplitl [Hi1] <;> iassumption
      isplitl [Ho0 HvO0]; · isplitl [Ho0] <;> iassumption
      isplitl [Ho1 HvO1]; · isplitl [Ho1] <;> iassumption
      iexact Hg
    isplitl [HO]
    · iexists W; isplitr
      · ipureintro; exact fun p hp => .inl hp
      · iexact HO
    iexact Hmw
  iintro %_ ⟨Hout, ⟨⟨Hi0, HvI0⟩, ⟨Hi1, HvI1⟩, ⟨Ho0, HvO0⟩, ⟨Ho1, HvO1⟩, Hg⟩, %W', %hW, HO⟩
  isplitl [Hout]; · iexact Hout
  isplitl [Hi0 Hi1 Ho0 Ho1 Hbufs]
  · isplitl [Hi0 Hi1]
    · iapply (slotsI_join d L)
      isplitl [Hi0] <;> iassumption
    isplitl [Ho0 Ho1]
    · iapply (slotsO_join d L)
      isplitl [Ho0] <;> iassumption
    iexact Hbufs
  isplitl [HvI0 HvI1 HvO0 HvO1 Hg Hsems]
  · isplitl [HvI0 HvI1 HvO0 HvO1 Hg]
    · isplitl [HvI0]; · iexact HvI0
      isplitl [HvI1]; · iexact HvI1
      isplitl [HvO0]; · iexact HvO0
      isplitl [HvO1]; · iexact HvO1
      iexact Hg
    iexact Hsems
  iexists W'; isplitr
  · ipureintro; exact fun p hp => (hW p hp).imp_right Or.inl
  · iexact HO

end Tile

/-! ## What the handshakes carry -/

/-- The coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

variable (m : (ℓ : Loc nD τ sig) → Buf (Elt F) ℓ)

/-- Tile `t`'s pieces at the launch; and at the end. -/
abbrev given (d : Dev nD) (t : ℕ) : sProp 𝕄 := tileHas d (m (aLoc d)) (m (iLoc d)) (m (oLoc d)) t
abbrev done (d : Dev nD) (t : ℕ) : sProp 𝕄 := tileHas d (m (aLoc d)) (m (iLoc d)) (gath (m (aLoc d)) (m (iLoc d))) t

def P : (K (F := F)).Pay (nD := nD) (Val := Elt F) (Name := ℕ) (U := UU) where
  st := fun q d c => match q with | 0 => bigSep Finset.univ fun i : Fin ((K (F := F)).nSub 0) => given m d (i.val + 16 * c.val)
  dn := fun q d c => match q with | 0 => bigSep Finset.univ fun i : Fin ((K (F := F)).nSub 0) => done m d (i.val + 16 * c.val)
  go := fun q d c i => match q with | 0 => given m d (i.val + 16 * c.val)
  td := fun q d c i => match q with | 0 => done m d (i.val + 16 * c.val)
  x := fun _ _ => iprop(emp)

instance tileHas_storable (d : Dev nD) (A : S1024x128.Idx → Elt F .f32) (I : S1024x32.Idx → Elt F .i32) (f : S32768x128.Idx → Elt F .f32) (t : ℕ) :
    BI.Storable (upEmb : UEmb _ 𝕄) (tileHas d A I f t) := by unfold tileHas tblAt; infer_instance

instance P_storable : (P (F := F) m).IsStorable where
  st q d c := match q with
    | 0 => (inferInstance : BI.Storable (upEmb : UEmb _ 𝕄) (bigSep Finset.univ fun i : Fin ((K (F := F)).nSub 0) => given m d (i.val + 16 * c.val)))
  dn q d c := match q with
    | 0 => (inferInstance : BI.Storable (upEmb : UEmb _ 𝕄) (bigSep Finset.univ fun i : Fin ((K (F := F)).nSub 0) => done m d (i.val + 16 * c.val)))
  go q d c i := match q with | 0 => tileHas_storable _ _ _ _ _
  td q d c i := match q with | 0 => tileHas_storable _ _ _ _ _

/-- What the proof asks of the memory at the launch: every index names a row of the table. -/
def InRows : Prop := ∀ (d : Dev nD) (z : S1024x32.Idx), (m (iLoc d) z).toNat < 1024

section Run

variable [FloatOps F]

theorem defs₀_vector (c : Fin τ.nSC) (s : Fin τ.nSub) :
    defs₀ (F := F) (.scVector c s) 0 ()
      = SparseCore.onTile hcore0 hsub0 (fun c s => cc0_kern (coordsV c s)
          (Memref.whole main_arg0_scv) (Memref.isWhole_whole _) (Memref.whole main_arg1_scv) (Memref.isWhole_whole _)
          (Memref.whole main_v0_scv) (Memref.isWhole_whole _) (Memref.whole cc0_scoped0) (Memref.isWhole_whole _) cc0_scoped1
          (Memref.whole cc0_scoped2) (Memref.isWhole_whole _) cc0_scoped3 cc0_scoped4 cc0_scoped5 cc0_scoped6 cc0_scoped7) ⟨⟩ c s := rfl

set_option maxRecDepth 16384 in
theorem tileObl (hF : (K (F := F)).Facts) (hI : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (m (aLoc d)) (m (iLoc d)) (m (oLoc d)) hF
    (shareOf (tile (coordsV ⟨_, hci.1⟩ ⟨_, hci.2⟩))) (hI d) O W hO

/-- A SparseCore's pieces are its tiles'. -/
theorem vecSplit : (K (F := F)).VecSplit' (P m) 0 := by
  intro d c
  show (bigSep Finset.univ fun i : Fin ((K (F := F)).nSub 0) => given m d (i.val + 16 * c.val)) ⊢ |={Set.univ}=> iprop(
      (bigSep Finset.univ fun i : Fin ((K (F := F)).nSub 0) => given m d (i.val + 16 * c.val))
      ∗ ((bigSep Finset.univ fun i : Fin ((K (F := F)).nSub 0) => done m d (i.val + 16 * c.val))
          -∗ bigSep Finset.univ fun i : Fin ((K (F := F)).nSub 0) => done m d (i.val + 16 * c.val)))
  iintro H; imodintro
  isplitl [H]; · iexact H
  iintro H; iexact H

/-! ## The ghost state at the launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's part -/

theorem arrays_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The three arrays, whole, the output at `f`. -/
abbrev whole3 (d : Dev nD) (f : S32768x128.Idx → Elt F .f32) : sProp 𝕄 :=
  iprop((aLoc d ↦{fullShare} m (aLoc d)) ∗ (iLoc d ↦{fullShare} m (iLoc d)) ∗ (oLoc d ↦{fullShare} f))

theorem st_eq (d : Dev nD) : (bigSep Finset.univ fun c : Fin ((K (F := F)).nCore 0) => (P m).st 0 d c) = whole3 m d (m (oLoc d)) :=
  (arrays_tiles d (m (aLoc d)) (m (iLoc d)) (m (oLoc d))).symm
theorem dn_eq (d : Dev nD) : (bigSep Finset.univ fun c : Fin ((K (F := F)).nCore 0) => (P m).dn 0 d c) = whole3 m d (gath (m (aLoc d)) (m (iLoc d))) :=
  (arrays_tiles d (m (aLoc d)) (m (iLoc d)) (gath (m (aLoc d)) (m (iLoc d)))).symm

abbrev FIN (d : Dev nD) : sProp 𝕄 := whole3 m d (gath (m (aLoc d)) (m (iLoc d)))

variable (ρ : Dev nD → PrngReg)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st_eq]
    iexact Harr
  iintro ⟨Hst, Hdn⟩
  ihave Harr := (Entails.of_eq (dn_eq m d)) $$ Hdn
  imodintro
  isplitl [Hst]; · iexact Hst
  isplitl [Harr]; · iexact Harr
  isplitl [Hb] <;> iassumption

/-- What the memory holds at the end: the arguments as they were, the output gathered. -/
def fq (d : Dev nD) (s : Phys nD τ sig (Elt F)) : Prop :=
  s.mem.mem (oLoc d) = gath (m (aLoc d)) (m (iLoc d)) ∧ s.mem.mem (aLoc d) = m (aLoc d) ∧ s.mem.mem (iLoc d) = m (iLoc d)

set_option maxRecDepth 16384 in
theorem hfin (d : Dev nD) (s : Phys nD τ sig (Elt F)) : iprop(FIN m d ∗ SI s) ⊢ (⌜fq m d s⌝ : sProp 𝕄) := by
  iintro ⟨⟨Ha, Hi, Ho⟩, HSI⟩
  ihave H := (persistent_entails_right (SI_pointsTo_agree (st := s) (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s) (ℓ := iLoc d) (I := Finset.univ) (q := fullShare) (f := m (iLoc d)))) $$ [HSI Hi]
  · isplitl [HSI] <;> iassumption
  icases H with ⟨%h2, HSI, -⟩
  ihave H := (SI_pointsTo_agree (st := s) (ℓ := oLoc d) (I := Finset.univ) (q := fullShare) (f := gath (m (aLoc d)) (m (iLoc d)))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The run -/

def QC : PUnit × MemSt nD τ sig (Elt F) → Prop := fun r =>
  (∀ c : Dev nD, r.2.mem (oLoc c) = gath (m (aLoc c)) (m (iLoc c)) ∧ r.2.mem (aLoc c) = m (aLoc c) ∧ r.2.mem (iLoc c) = m (iLoc c)) ∧ r.2.sem = fun _ => 0

theorem run_main [∀ e, Nonempty (Elt F e)] (hI : InRows m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hI)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Run

end Cert.Proof.Gather

end

end
-- ==== Proof.Value.lean ====
/-  The reference's value, and what the precondition says of the indices. -/
module

public import proofs.«01_k».proof.Proof.Geometry
public import proofs.«01_k».proof.Proof.Gen.Pre_idx_in_rows
public import Idealize.ShloMosaic.Lib.ReduceAll
public import Idealize.ShloMosaic.Lib.Pipeline.Value
public import Idealize.ShloMosaic.Lib.ValueIdxCore

@[expose] public section

set_option Elab.async false

noncomputable section

namespace Cert.Proof.Gather

open Idealize.ShloMosaic
open Cert.KernelIdeal (S1024x128 S1024x32 S32768x128)

abbrev S3 : Shape := ⟨3, ![1024, 32, 1]⟩
abbrev R3 : Shape := ⟨3, ![1024, 32, 128]⟩

/-- The reference's gather: rows of the table, at the start indices' one component. -/
abbrev takeRow (wf : GatherDims.WF S1024x128 S3 R3 [2] [0] [] [0] [] 2 ![1, 128]) : GatherDims S1024x128 S3 R3 where
  offsetDims := [2]
  collapsedSliceDims := [0]
  operandBatchingDims := []
  startIndicesBatchingDims := []
  startIndexMap := [0]
  indexVectorDim := 2
  sliceSizes := ![1, 128]
  wf := wf

/-- The start index of a result index. -/
abbrev startOf (y : R3.Idx) : S3.Idx := fun a => match a with | ⟨0, _⟩ => y 0 | ⟨1, _⟩ => y 1 | ⟨2, _⟩ => (⟨0, Nat.one_pos⟩ : Fin 1)

theorem takeRow_apply {α : Type} (wf) (A : S1024x128.Idx → α) (J : IVec S3 32) (y : R3.Idx) (h : (J (startOf y)).toNat < 1024) :
    Host.gather (takeRow wf) A J y = A (ix2 (n0 := 1024) (n1 := 128) ⟨(J (startOf y)).toNat, h⟩ (y 2)) := by
  unfold Host.gather
  congr 1
  funext a
  refine Fin.ext ?_
  show (takeRow wf).start y J a + (takeRow wf).batchCoord y a + (takeRow wf).offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRow wf).startIndexMap from List.mem_singleton.mpr rfl)]
    have hsi : (takeRow wf).siIdx y ⟨List.idxOf (0 : Fin 2) (takeRow wf).startIndexMap,
        List.idxOf_lt_length_iff.2 (List.mem_singleton.mpr rfl)⟩ = startOf y := by
      funext b; refine Fin.ext ?_
      match b with
      | ⟨0, _⟩ => rfl
      | ⟨1, _⟩ => rfl
      | ⟨2, _⟩ => rfl
    rw [hsi]
    show min (J (startOf y)).toInt.toNat (1024 - 1) = (J (startOf y)).toNat
    rw [BitVec.toInt_eq_toNat_cond, if_pos (by omega)]
    omega
  · rw [show (takeRow wf).start y J 1 = 0 by
      unfold GatherDims.start; rw [dif_neg (show ¬ (1 : Fin 2) ∈ ([0] : List (Fin 2)) by decide)]]
    simp only [Nat.zero_add]
    unfold GatherDims.offCoord
    rw [dif_pos (by rw [GatherDims.mem_sKept]; exact ⟨show ¬ (1 : Fin 2) ∈ ([0] : List (Fin 2)) by decide, show ¬ (1 : Fin 2) ∈ ([] : List (Fin 2)) by decide⟩)]
    rfl

/-- A word below 1024 is not negative, so the reference's select keeps it. -/
theorem kept (v w : BitVec 32) (h : v.toNat < 1024) : Scalar.select (IntOp.cmpi .slt v 0#32) w v = v := by
  have e : IntOp.cmpi .slt v 0#32 = 0#1 := by
    have h0 : BitVec.slt v 0#32 = false := by
      rw [BitVec.slt_eq_decide, decide_eq_false_iff_not, BitVec.toInt_eq_toNat_cond, if_pos (by omega)]
      simp only [BitVec.toInt_zero]
      omega
    simp only [IntOp.cmpi, h0]
    rfl
  rw [e]; rfl

/-- The reference's result is the gathered rows. -/
theorem ref_value {α : Type} (wf) (hb : S1024x32.BroadcastsInDim S3 ![0, 1]) (hs : R3.ShapeCasts S32768x128)
    (A : S1024x128.Idx → α) (I z w : IVec S1024x32 32) (hz : ∀ i, z i = 0#32) (hI : ∀ i, (I i).toNat < 1024) :
    shapeCast S32768x128 (Host.gather (takeRow wf) A (broadcastInDim S3 ![0, 1] hb (select (cmpi .slt I z) w I))) hs = gath A I := by
  funext x
  have hx0 : (x 0 : ℕ) < 32768 := (x 0).isLt
  have hx1 : (x 1 : ℕ) < 128 := (x 1).isLt
  let y : R3.Idx := fun a => match a with
    | ⟨0, _⟩ => (⟨(x 0 : ℕ) / 32, by omega⟩ : Fin 1024)
    | ⟨1, _⟩ => (⟨(x 0 : ℕ) % 32, Nat.mod_lt _ (by decide)⟩ : Fin 32)
    | ⟨2, _⟩ => (⟨(x 1 : ℕ), hx1⟩ : Fin 128)
  have hw : ∀ y : R3.Idx, broadcastInDim S3 ![0, 1] hb (select (cmpi .slt I z) w I) (startOf y) = I (ix2 (n0 := 1024) (n1 := 32) (y 0) (y 1)) := by
    intro y
    have e : (broadcastInDim S3 ![0, 1] hb (select (cmpi .slt I z) w I) (startOf y) : BitVec 32)
        = select (cmpi .slt I z) w I (ix2 (n0 := 1024) (n1 := 32) (y 0) (y 1)) := by
      unfold broadcastInDim
      congr 1
      funext a
      match a with
      | ⟨0, _⟩ => rfl
      | ⟨1, _⟩ => rfl
    rw [e]
    show Scalar.select (IntOp.cmpi .slt (I _) (z _)) (w _) (I _) = _
    rw [hz]
    exact kept _ _ (hI _)
  rw [shapeCast_apply _ hs x y (by
    rw [Shape.rowMajor_val_three, Shape.rowMajor_val_two]
    show ((x 0 : ℕ) / 32 * 32 + (x 0 : ℕ) % 32) * 128 + (x 1 : ℕ) = (x 0 : ℕ) * 128 + (x 1 : ℕ)
    omega)]
  rw [takeRow_apply wf A _ y (by rw [hw]; exact hI _)]
  unfold gath
  congr 1
  funext a
  match a with
  | ⟨0, _⟩ =>
    refine Fin.ext ?_
    show (broadcastInDim S3 ![0, 1] hb (select (cmpi .slt I z) w I) (startOf y)).toNat = _ % 1024
    rw [hw, Nat.mod_eq_of_lt (hI _)]
  | ⟨1, _⟩ => rfl

/-- The precondition, as the certificate states it, puts every index below 1024. -/
theorem inRows_of_pre {F : FTy → Type} [FloatOps F] (A : S1024x128.Idx → F .f32) (I : S1024x32.Idx → BitVec 32)
    (h : Cert.Pre_idx_in_rows.fn (F := F) A I = fun _ => 1#1) (z : S1024x32.Idx) : (I z).toNat < 1024 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 1024#32) = 1#1 → v.toNat < 1024 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  haveI : Subsingleton Cert.Pre_idx_in_rows.S_.Idx := ⟨fun a b => funext fun i => i.elim0⟩
  have e := Host.reduce_andi_all _ _ _ _ (fun i => i.elim0) (congrFun h (fun i => i.elim0)) z
  exact key _ e

end Cert.Proof.Gather

end

end
-- ==== Proof.NearestBlock.lean ====
/-  The picked places of a block of rows: the body's 32 unrolled rounds as one round, repeated. -/
module

public import proofs.«01_k».proof.Proof.Gen.NearestIdeal.Frame

@[expose] public section

set_option maxRecDepth 16384

noncomputable section

namespace Cert.Proof.Nearest

open Idealize.ShloMosaic Idealize.ShloMosaic.TcCoe
open Cert.NearestIdeal Cert.NearestIdeal.Gen

variable {F : FTy → Type} [FloatOps F]

/-- The least of each row. -/
def rowMin (d : FVec F S256x1024 .f32) : FVec F S256x1 .f32 :=
  shapeCast S256x1 (multiReduction .minimumf [1] S256 d 0x7F800000#32 reduces_S256x1024_S256 (.inl rfl) rfl) shapeCasts_S256_S256x1

/-- A row's number along the whole row. -/
def along (c : FVec F S256x1 .f32) : FVec F S256x1024 .f32 := broadcastTo S256x1024 c broadcasts_S256x1_S256x1024

/-- The lanes that hold their row's least, and 1e9 elsewhere. -/
def lanesAt (L d : FVec F S256x1024 .f32) : FVec F S256x1024 .f32 :=
  select (cmpf .oeq d (along (rowMin d))) L (broadcast S256x1024 (Scalar.ofBits .f32 0x4E6E6B28#32))

/-- The lowest lane that holds its row's least. -/
def sel (L d : FVec F S256x1024 .f32) : FVec F S256x1 .f32 := rowMin (lanesAt L d)

/-- The distances with that lane struck out. -/
def nxt (L d : FVec F S256x1024 .f32) : FVec F S256x1024 .f32 :=
  select (cmpf .oeq L (along (sel L d))) (broadcast S256x1024 (Scalar.ofBits .f32 0x7F800000#32)) d

/-- The distances after some rounds. -/
def after (L d : FVec F S256x1024 .f32) : ℕ → FVec F S256x1024 .f32
  | 0 => d
  | j + 1 => nxt L (after L d j)

variable (L d : FVec F S256x1024 .f32)

theorem q10 : k0_pay10 (after L d 0) L (sel L (after L d 0)) = after L d 1 :=
  rfl
theorem q11 : k0_pay11 (after L d 0) L (sel L (after L d 0)) = sel L (after L d 1) :=
  (rfl : _ = (sel L) (k0_pay10 (after L d 0) L (sel L (after L d 0)))).trans (congrArg (sel L) (q10 L d))
theorem q12 : k0_pay12 (after L d 0) L (sel L (after L d 0)) = after L d 2 :=
  (rfl : _ = (nxt L) (k0_pay10 (after L d 0) L (sel L (after L d 0)))).trans (congrArg (nxt L) (q10 L d))
theorem q13 : k0_pay13 (after L d 0) L (sel L (after L d 0)) = sel L (after L d 2) :=
  (rfl : _ = (sel L) (k0_pay12 (after L d 0) L (sel L (after L d 0)))).trans (congrArg (sel L) (q12 L d))
theorem q14 : k0_pay14 (after L d 0) L (sel L (after L d 0)) = after L d 3 :=
  (rfl : _ = (nxt L) (k0_pay12 (after L d 0) L (sel L (after L d 0)))).trans (congrArg (nxt L) (q12 L d))
theorem q15 : k0_pay15 (after L d 0) L (sel L (after L d 0)) = sel L (after L d 3) :=
  (rfl : _ = (sel L) (k0_pay14 (after L d 0) L (sel L (after L d 0)))).trans (congrArg (sel L) (q14 L d))
theorem q16 : k0_pay16 (after L d 0) L (sel L (after L d 0)) = after L d 4 :=
  (rfl : _ = (nxt L) (k0_pay14 (after L d 0) L (sel L (after L d 0)))).trans (congrArg (nxt L) (q14 L d))
theorem q17 : k0_pay17 (after L d 0) L (sel L (after L d 0)) = cmpf .oeq (after L d 4) (along (rowMin (after L d 4))) :=
  (rfl : _ = (fun x => cmpf .oeq x (along (rowMin x))) (k0_pay16 (after L d 0) L (sel L (after L d 0)))).trans (congrArg (fun x => cmpf .oeq x (along (rowMin x))) (q16 L d))
theorem q18 : k0_pay18 (F := F) = broadcast S256x1024 (Scalar.ofBits .f32 0x4E6E6B28#32) := rfl
theorem q19 : k0_pay19 L (cmpf .oeq (after L d 4) (along (rowMin (after L d 4)))) (broadcast S256x1024 (Scalar.ofBits .f32 0x4E6E6B28#32)) = sel L (after L d 4) :=
  rfl
theorem q20 : k0_pay20 L (after L d 4) (cmpf .oeq (after L d 4) (along (rowMin (after L d 4)))) (broadcast S256x1024 (Scalar.ofBits .f32 0x4E6E6B28#32)) = after L d 5 :=
  rfl
theorem q21 : k0_pay21 L (after L d 4) (cmpf .oeq (after L d 4) (along (rowMin (after L d 4)))) (broadcast S256x1024 (Scalar.ofBits .f32 0x4E6E6B28#32)) = sel L (after L d 5) :=
  (rfl : _ = (sel L) (k0_pay20 L (after L d 4) (cmpf .oeq (after L d 4) (along (rowMin (after L d 4)))) (broadcast S256x1024 (Scalar.ofBits .f32 0x4E6E6B28#32)))).trans (congrArg (sel L) (q20 L d))
theorem q22 : k0_pay22 L (after L d 4) (cmpf .oeq (after L d 4) (along (rowMin (after L d 4)))) (broadcast S256x1024 (Scalar.ofBits .f32 0x4E6E6B28#32)) = after L d 6 :=
  (rfl : _ = (nxt L) (k0_pay20 L (after L d 4) (cmpf .oeq (after L d 4) (along (rowMin (after L d 4)))) (broadcast S256x1024 (Scalar.ofBits .f32 0x4E6E6B28#32)))).trans (congrArg (nxt L) (q20 L d))
theorem q23 : k0_pay23 L (after L d 4) (cmpf .oeq (after L d 4) (along (rowMin (after L d 4)))) (broadcast S256x1024 (Scalar.ofBits .f32 0x4E6E6B28#32)) = sel L (after L d 6) :=
  (rfl : _ = (sel L) (k0_pay22 L (after L d 4) (cmpf .oeq (after L d 4) (along (rowMin (after L d 4)))) (broadcast S256x1024 (Scalar.ofBits .f32 0x4E6E6B28#32)))).trans (congrArg (sel L) (q22 L d))
theorem q24 : k0_pay24 L (after L d 4) (cmpf .oeq (after L d 4) (along (rowMin (after L d 4)))) (broadcast S256x1024 (Scalar.ofBits .f32 0x4E6E6B28#32)) = after L d 7 :=
  (rfl : _ = (nxt L) (k0_pay22 L (after L d 4) (cmpf .oeq (after L d 4) (along (rowMin (after L d 4)))) (broadcast S256x1024 (Scalar.ofBits .f32 0x4E6E6B28#32)))).trans (congrArg (nxt L) (q22 L d))
theorem q25 : k0_pay25 L (after L d 4) (cmpf .oeq (after L d 4) (along (rowMin (after L d 4)))) (broadcast S256x1024 (Scalar.ofBits .f32 0x4E6E6B28#32)) = sel L (after L d 7) :=
  (rfl : _ = (sel L) (k0_pay24 L (after L d 4) (cmpf .oeq (after L d 4) (along (rowMin (after L d 4)))) (broadcast S256x1024 (Scalar.ofBits .f32 0x4E6E6B28#32)))).trans (congrArg (sel L) (q24 L d))
theorem q26 : k0_pay26 L (after L d 4) (cmpf .oeq (after L d 4) (along (rowMin (after L d 4)))) (broadcast S256x1024 (Scalar.ofBits .f32 0x4E6E6B28#32)) = after L d 8 :=
  (rfl : _ = (nxt L) (k0_pay24 L (after L d 4) (cmpf .oeq (after L d 4) (along (rowMin (after L d 4)))) (broadcast S256x1024 (Scalar.ofBits .f32 0x4E6E6B28#32)))).trans (congrArg (nxt L) (q24 L d))
theorem q27 : k0_pay27 L (after L d 4) (cmpf .oeq (after L d 4) (along (rowMin (after L d 4)))) (broadcast S256x1024 (Scalar.ofBits .f32 0x4E6E6B28#32)) = rowMin (after L d 8) :=
  (rfl : _ = rowMin (k0_pay26 L (after L d 4) (cmpf .oeq (after L d 4) (along (rowMin (after L d 4)))) (broadcast S256x1024 (Scalar.ofBits .f32 0x4E6E6B28#32)))).trans (congrArg rowMin (q26 L d))
theorem q28 : k0_pay28 L (after L d 8) (rowMin (after L d 8)) = sel L (after L d 8) :=
  rfl
theorem q29 : k0_pay29 L (after L d 8) (rowMin (after L d 8)) = after L d 9 :=
  rfl
theorem q30 : k0_pay30 L (after L d 8) (rowMin (after L d 8)) = sel L (after L d 9) :=
  (rfl : _ = (sel L) (k0_pay29 L (after L d 8) (rowMin (after L d 8)))).trans (congrArg (sel L) (q29 L d))
theorem q31 : k0_pay31 L (after L d 8) (rowMin (after L d 8)) = after L d 10 :=
  (rfl : _ = (nxt L) (k0_pay29 L (after L d 8) (rowMin (after L d 8)))).trans (congrArg (nxt L) (q29 L d))
theorem q32 : k0_pay32 L (after L d 8) (rowMin (after L d 8)) = sel L (after L d 10) :=
  (rfl : _ = (sel L) (k0_pay31 L (after L d 8) (rowMin (after L d 8)))).trans (congrArg (sel L) (q31 L d))
theorem q33 : k0_pay33 L (after L d 8) (rowMin (after L d 8)) = after L d 11 :=
  (rfl : _ = (nxt L) (k0_pay31 L (after L d 8) (rowMin (after L d 8)))).trans (congrArg (nxt L) (q31 L d))
theorem q34 : k0_pay34 L (after L d 8) (rowMin (after L d 8)) = sel L (after L d 11) :=
  (rfl : _ = (sel L) (k0_pay33 L (after L d 8) (rowMin (after L d 8)))).trans (congrArg (sel L) (q33 L d))
theorem q35 : k0_pay35 L (after L d 8) (rowMin (after L d 8)) = cmpf .oeq L (along (sel L (after L d 11))) :=
  (rfl : _ = (fun x => cmpf .oeq L (along (sel L x))) (k0_pay33 L (after L d 8) (rowMin (after L d 8)))).trans (congrArg (fun x => cmpf .oeq L (along (sel L x))) (q33 L d))
theorem q36 : k0_pay36 (F := F) = broadcast S256x1024 (Scalar.ofBits .f32 0x7F800000#32) := rfl
theorem q37 : k0_pay37 (after L d 11) (cmpf .oeq L (along (sel L (after L d 11)))) (broadcast S256x1024 (Scalar.ofBits .f32 0x7F800000#32)) = after L d 12 :=
  rfl
theorem q38 : k0_pay38 L (after L d 11) (cmpf .oeq L (along (sel L (after L d 11)))) (broadcast S256x1024 (Scalar.ofBits .f32 0x7F800000#32)) = sel L (after L d 12) :=
  rfl
theorem q39 : k0_pay39 L (after L d 11) (cmpf .oeq L (along (sel L (after L d 11)))) (broadcast S256x1024 (Scalar.ofBits .f32 0x7F800000#32)) = after L d 13 :=
  rfl
theorem q40 : k0_pay40 L (after L d 11) (cmpf .oeq L (along (sel L (after L d 11)))) (broadcast S256x1024 (Scalar.ofBits .f32 0x7F800000#32)) = sel L (after L d 13) :=
  (rfl : _ = (sel L) (k0_pay39 L (after L d 11) (cmpf .oeq L (along (sel L (after L d 11)))) (broadcast S256x1024 (Scalar.ofBits .f32 0x7F800000#32)))).trans (congrArg (sel L) (q39 L d))
theorem q41 : k0_pay41 L (after L d 11) (cmpf .oeq L (along (sel L (after L d 11)))) (broadcast S256x1024 (Scalar.ofBits .f32 0x7F800000#32)) = after L d 14 :=
  (rfl : _ = (nxt L) (k0_pay39 L (after L d 11) (cmpf .oeq L (along (sel L (after L d 11)))) (broadcast S256x1024 (Scalar.ofBits .f32 0x7F800000#32)))).trans (congrArg (nxt L) (q39 L d))
theorem q42 : k0_pay42 L (after L d 11) (cmpf .oeq L (along (sel L (after L d 11)))) (broadcast S256x1024 (Scalar.ofBits .f32 0x7F800000#32)) = sel L (after L d 14) :=
  (rfl : _ = (sel L) (k0_pay41 L (after L d 11) (cmpf .oeq L (along (sel L (after L d 11)))) (broadcast S256x1024 (Scalar.ofBits .f32 0x7F800000#32)))).trans (congrArg (sel L) (q41 L d))
theorem q43 : k0_pay43 L (after L d 11) (cmpf .oeq L (along (sel L (after L d 11)))) (broadcast S256x1024 (Scalar.ofBits .f32 0x7F800000#32)) = after L d 15 :=
  (rfl : _ = (nxt L) (k0_pay41 L (after L d 11) (cmpf .oeq L (along (sel L (after L d 11)))) (broadcast S256x1024 (Scalar.ofBits .f32 0x7F800000#32)))).trans (congrArg (nxt L) (q41 L d))
theorem q44 : k0_pay44 L (after L d 11) (cmpf .oeq L (along (sel L (after L d 11)))) (broadcast S256x1024 (Scalar.ofBits .f32 0x7F800000#32)) = sel L (after L d 15) :=
  (rfl : _ = (sel L) (k0_pay43 L (after L d 11) (cmpf .oeq L (along (sel L (after L d 11)))) (broadcast S256x1024 (Scalar.ofBits .f32 0x7F800000#32)))).trans (congrArg (sel L) (q43 L d))
theorem q45 : k0_pay45 L (after L d 15) (sel L (after L d 15)) = after L d 16 :=
  rfl
theorem q46 : k0_pay46 L (after L d 15) (sel L (after L d 15)) = sel L (after L d 16) :=
  (rfl : _ = (sel L) (k0_pay45 L (after L d 15) (sel L (after L d 15)))).trans (congrArg (sel L) (q45 L d))
theorem q47 : k0_pay47 L (after L d 15) (sel L (after L d 15)) = after L d 17 :=
  (rfl : _ = (nxt L) (k0_pay45 L (after L d 15) (sel L (after L d 15)))).trans (congrArg (nxt L) (q45 L d))
theorem q48 : k0_pay48 L (after L d 15) (sel L (after L d 15)) = sel L (after L d 17) :=
  (rfl : _ = (sel L) (k0_pay47 L (after L d 15) (sel L (after L d 15)))).trans (congrArg (sel L) (q47 L d))
theorem q49 : k0_pay49 L (after L d 15) (sel L (after L d 15)) = after L d 18 :=
  (rfl : _ = (nxt L) (k0_pay47 L (after L d 15) (sel L (after L d 15)))).trans (congrArg (nxt L) (q47 L d))
theorem q50 : k0_pay50 L (after L d 15) (sel L (after L d 15)) = sel L (after L d 18) :=
  (rfl : _ = (sel L) (k0_pay49 L (after L d 15) (sel L (after L d 15)))).trans (congrArg (sel L) (q49 L d))
theorem q51 : k0_pay51 L (after L d 15) (sel L (after L d 15)) = after L d 19 :=
  (rfl : _ = (nxt L) (k0_pay49 L (after L d 15) (sel L (after L d 15)))).trans (congrArg (nxt L) (q49 L d))
theorem q52 : k0_pay52 L (after L d 15) (sel L (after L d 15)) = cmpf .oeq (after L d 19) (along (rowMin (after L d 19))) :=
  (rfl : _ = (fun x => cmpf .oeq x (along (rowMin x))) (k0_pay51 L (after L d 15) (sel L (after L d 15)))).trans (congrArg (fun x => cmpf .oeq x (along (rowMin x))) (q51 L d))
theorem q53 : k0_pay53 (F := F) = broadcast S256x1024 (Scalar.ofBits .f32 0x4E6E6B28#32) := rfl
theorem q54 : k0_pay54 L (cmpf .oeq (after L d 19) (along (rowMin (after L d 19)))) (broadcast S256x1024 (Scalar.ofBits .f32 0x4E6E6B28#32)) = sel L (after L d 19) :=
  rfl
theorem q55 : k0_pay55 L (after L d 19) (cmpf .oeq (after L d 19) (along (rowMin (after L d 19)))) (broadcast S256x1024 (Scalar.ofBits .f32 0x4E6E6B28#32)) = after L d 20 :=
  rfl
theorem q56 : k0_pay56 L (after L d 19) (cmpf .oeq (after L d 19) (along (rowMin (after L d 19)))) (broadcast S256x1024 (Scalar.ofBits .f32 0x4E6E6B28#32)) = sel L (after L d 20) :=
  (rfl : _ = (sel L) (k0_pay55 L (after L d 19) (cmpf .oeq (after L d 19) (along (rowMin (after L d 19)))) (broadcast S256x1024 (Scalar.ofBits .f32 0x4E6E6B28#32)))).trans (congrArg (sel L) (q55 L d))
theorem q57 : k0_pay57 L (after L d 19) (cmpf .oeq (after L d 19) (along (rowMin (after L d 19)))) (broadcast S256x1024 (Scalar.ofBits .f32 0x4E6E6B28#32)) = after L d 21 :=
  (rfl : _ = (nxt L) (k0_pay55 L (after L d 19) (cmpf .oeq (after L d 19) (along (rowMin (after L d 19)))) (broadcast S256x1024 (Scalar.ofBits .f32 0x4E6E6B28#32)))).trans (congrArg (nxt L) (q55 L d))
theorem q58 : k0_pay58 L (after L d 19) (cmpf .oeq (after L d 19) (along (rowMin (after L d 19)))) (broadcast S256x1024 (Scalar.ofBits .f32 0x4E6E6B28#32)) = sel L (after L d 21) :=
  (rfl : _ = (sel L) (k0_pay57 L (after L d 19) (cmpf .oeq (after L d 19) (along (rowMin (after L d 19)))) (broadcast S256x1024 (Scalar.ofBits .f32 0x4E6E6B28#32)))).trans (congrArg (sel L) (q57 L d))
theorem q59 : k0_pay59 L (after L d 19) (cmpf .oeq (after L d 19) (along (rowMin (after L d 19)))) (broadcast S256x1024 (Scalar.ofBits .f32 0x4E6E6B28#32)) = after L d 22 :=
  (rfl : _ = (nxt L) (k0_pay57 L (after L d 19) (cmpf .oeq (after L d 19) (along (rowMin (after L d 19)))) (broadcast S256x1024 (Scalar.ofBits .f32 0x4E6E6B28#32)))).trans (congrArg (nxt L) (q57 L d))
theorem q60 : k0_pay60 L (after L d 19) (cmpf .oeq (after L d 19) (along (rowMin (after L d 19)))) (broadcast S256x1024 (Scalar.ofBits .f32 0x4E6E6B28#32)) = sel L (after L d 22) :=
  (rfl : _ = (sel L) (k0_pay59 L (after L d 19) (cmpf .oeq (after L d 19) (along (rowMin (after L d 19)))) (broadcast S256x1024 (Scalar.ofBits .f32 0x4E6E6B28#32)))).trans (congrArg (sel L) (q59 L d))
theorem q61 : k0_pay61 L (after L d 19) (cmpf .oeq (after L d 19) (along (rowMin (after L d 19)))) (broadcast S256x1024 (Scalar.ofBits .f32 0x4E6E6B28#32)) = after L d 23 :=
  (rfl : _ = (nxt L) (k0_pay59 L (after L d 19) (cmpf .oeq (after L d 19) (along (rowMin (after L d 19)))) (broadcast S256x1024 (Scalar.ofBits .f32 0x4E6E6B28#32)))).trans (congrArg (nxt L) (q59 L d))
theorem q62 : k0_pay62 L (after L d 19) (cmpf .oeq (after L d 19) (along (rowMin (after L d 19)))) (broadcast S256x1024 (Scalar.ofBits .f32 0x4E6E6B28#32)) = rowMin (after L d 23) :=
  (rfl : _ = rowMin (k0_pay61 L (after L d 19) (cmpf .oeq (after L d 19) (along (rowMin (after L d 19)))) (broadcast S256x1024 (Scalar.ofBits .f32 0x4E6E6B28#32)))).trans (congrArg rowMin (q61 L d))
theorem q63 : k0_pay63 L (after L d 23) (rowMin (after L d 23)) = sel L (after L d 23) :=
  rfl
theorem q64 : k0_pay64 L (after L d 23) (rowMin (after L d 23)) = after L d 24 :=
  rfl
theorem q65 : k0_pay65 L (after L d 23) (rowMin (after L d 23)) = sel L (after L d 24) :=
  (rfl : _ = (sel L) (k0_pay64 L (after L d 23) (rowMin (after L d 23)))).trans (congrArg (sel L) (q64 L d))
theorem q66 : k0_pay66 L (after L d 23) (rowMin (after L d 23)) = after L d 25 :=
  (rfl : _ = (nxt L) (k0_pay64 L (after L d 23) (rowMin (after L d 23)))).trans (congrArg (nxt L) (q64 L d))
theorem q67 : k0_pay67 L (after L d 23) (rowMin (after L d 23)) = sel L (after L d 25) :=
  (rfl : _ = (sel L) (k0_pay66 L (after L d 23) (rowMin (after L d 23)))).trans (congrArg (sel L) (q66 L d))
theorem q68 : k0_pay68 L (after L d 23) (rowMin (after L d 23)) = after L d 26 :=
  (rfl : _ = (nxt L) (k0_pay66 L (after L d 23) (rowMin (after L d 23)))).trans (congrArg (nxt L) (q66 L d))
theorem q69 : k0_pay69 L (after L d 23) (rowMin (after L d 23)) = sel L (after L d 26) :=
  (rfl : _ = (sel L) (k0_pay68 L (after L d 23) (rowMin (after L d 23)))).trans (congrArg (sel L) (q68 L d))
theorem q70 : k0_pay70 L (after L d 23) (rowMin (after L d 23)) = cmpf .oeq L (along (sel L (after L d 26))) :=
  (rfl : _ = (fun x => cmpf .oeq L (along (sel L x))) (k0_pay68 L (after L d 23) (rowMin (after L d 23)))).trans (congrArg (fun x => cmpf .oeq L (along (sel L x))) (q68 L d))
theorem q71 : k0_pay71 (F := F) = broadcast S256x1024 (Scalar.ofBits .f32 0x7F800000#32) := rfl
theorem q72 : k0_pay72 (after L d 26) (cmpf .oeq L (along (sel L (after L d 26)))) (broadcast S256x1024 (Scalar.ofBits .f32 0x7F800000#32)) = after L d 27 :=
  rfl
theorem q73 : k0_pay73 L (after L d 26) (cmpf .oeq L (along (sel L (after L d 26)))) (broadcast S256x1024 (Scalar.ofBits .f32 0x7F800000#32)) = sel L (after L d 27) :=
  rfl
theorem q74 : k0_pay74 L (after L d 26) (cmpf .oeq L (along (sel L (after L d 26)))) (broadcast S256x1024 (Scalar.ofBits .f32 0x7F800000#32)) = after L d 28 :=
  rfl
theorem q75 : k0_pay75 L (after L d 26) (cmpf .oeq L (along (sel L (after L d 26)))) (broadcast S256x1024 (Scalar.ofBits .f32 0x7F800000#32)) = sel L (after L d 28) :=
  (rfl : _ = (sel L) (k0_pay74 L (after L d 26) (cmpf .oeq L (along (sel L (after L d 26)))) (broadcast S256x1024 (Scalar.ofBits .f32 0x7F800000#32)))).trans (congrArg (sel L) (q74 L d))
theorem q76 : k0_pay76 L (after L d 26) (cmpf .oeq L (along (sel L (after L d 26)))) (broadcast S256x1024 (Scalar.ofBits .f32 0x7F800000#32)) = after L d 29 :=
  (rfl : _ = (nxt L) (k0_pay74 L (after L d 26) (cmpf .oeq L (along (sel L (after L d 26)))) (broadcast S256x1024 (Scalar.ofBits .f32 0x7F800000#32)))).trans (congrArg (nxt L) (q74 L d))
theorem q77 : k0_pay77 L (after L d 26) (cmpf .oeq L (along (sel L (after L d 26)))) (broadcast S256x1024 (Scalar.ofBits .f32 0x7F800000#32)) = sel L (after L d 29) :=
  (rfl : _ = (sel L) (k0_pay76 L (after L d 26) (cmpf .oeq L (along (sel L (after L d 26)))) (broadcast S256x1024 (Scalar.ofBits .f32 0x7F800000#32)))).trans (congrArg (sel L) (q76 L d))
theorem q78 : k0_pay78 L (after L d 26) (cmpf .oeq L (along (sel L (after L d 26)))) (broadcast S256x1024 (Scalar.ofBits .f32 0x7F800000#32)) = after L d 30 :=
  (rfl : _ = (nxt L) (k0_pay76 L (after L d 26) (cmpf .oeq L (along (sel L (after L d 26)))) (broadcast S256x1024 (Scalar.ofBits .f32 0x7F800000#32)))).trans (congrArg (nxt L) (q76 L d))
theorem q79 : k0_pay79 L (after L d 26) (cmpf .oeq L (along (sel L (after L d 26)))) (broadcast S256x1024 (Scalar.ofBits .f32 0x7F800000#32)) = sel L (after L d 30) :=
  (rfl : _ = (sel L) (k0_pay78 L (after L d 26) (cmpf .oeq L (along (sel L (after L d 26)))) (broadcast S256x1024 (Scalar.ofBits .f32 0x7F800000#32)))).trans (congrArg (sel L) (q78 L d))
theorem q1 : k0_pay1 L (after L d 30) (sel L (after L d 30)) = after L d 31 :=
  rfl
theorem q2 : k0_pay2 L (after L d 31) = lanesAt L (after L d 31) :=
  rfl

variable (x0 : Vec F S1x256x3 .f32) (x1 : Vec F S1x3x1024 .f32) (x2 : Vec F S128x3 .f32) (x3 : Vec F S1x128 .f32)

/-- The distances of a block's rows. -/
def dist : FVec F S256x1024 .f32 := k0_pay7 (View.ld x0 r0_0) (View.ld x1 r0_1)

/-- The number of each lane. -/
def lanes : FVec F S256x1024 .f32 := k0_pay8 (F := F)

theorem q80 : k0_pay80 x0 x1 x2 x3 = after lanes (dist x0 x1) 0 := rfl
theorem q81 : k0_pay81 x0 x1 x2 x3 = lanes := rfl
theorem q82 : k0_pay82 x0 x1 x2 x3 = sel lanes (after lanes (dist x0 x1) 0) := rfl
theorem q83 : k0_pay83 x0 x1 x2 x3 = after lanes (dist x0 x1) 4 := by
  unfold k0_pay83; rw [q80, q81, q82, q16]
theorem q84 : k0_pay84 x0 x1 x2 x3 = cmpf .oeq (after lanes (dist x0 x1) 4) (along (rowMin (after lanes (dist x0 x1) 4))) := by
  unfold k0_pay84; rw [q80, q81, q82, q17]
theorem q85 : k0_pay85 x0 x1 x2 x3 = broadcast S256x1024 (Scalar.ofBits .f32 0x4E6E6B28#32) := rfl
theorem q86 : k0_pay86 x0 x1 x2 x3 = after lanes (dist x0 x1) 8 := by
  unfold k0_pay86; rw [q81, q83, q84, q85, q26]
theorem q87 : k0_pay87 x0 x1 x2 x3 = rowMin (after lanes (dist x0 x1) 8) := by
  unfold k0_pay87; rw [q81, q83, q84, q85, q27]
theorem q88 : k0_pay88 x0 x1 x2 x3 = after lanes (dist x0 x1) 11 := by
  unfold k0_pay88; rw [q81, q86, q87, q33]
theorem q89 : k0_pay89 x0 x1 x2 x3 = cmpf .oeq lanes (along (sel lanes (after lanes (dist x0 x1) 11))) := by
  unfold k0_pay89; rw [q81, q86, q87, q35]
theorem q90 : k0_pay90 x0 x1 x2 x3 = broadcast S256x1024 (Scalar.ofBits .f32 0x7F800000#32) := rfl
theorem q91 : k0_pay91 x0 x1 x2 x3 = after lanes (dist x0 x1) 15 := by
  unfold k0_pay91; rw [q81, q88, q89, q90, q43]
theorem q92 : k0_pay92 x0 x1 x2 x3 = sel lanes (after lanes (dist x0 x1) 15) := by
  unfold k0_pay92; rw [q81, q88, q89, q90, q44]
theorem q93 : k0_pay93 x0 x1 x2 x3 = after lanes (dist x0 x1) 19 := by
  unfold k0_pay93; rw [q81, q91, q92, q51]
theorem q94 : k0_pay94 x0 x1 x2 x3 = cmpf .oeq (after lanes (dist x0 x1) 19) (along (rowMin (after lanes (dist x0 x1) 19))) := by
  unfold k0_pay94; rw [q81, q91, q92, q52]
theorem q95 : k0_pay95 x0 x1 x2 x3 = broadcast S256x1024 (Scalar.ofBits .f32 0x4E6E6B28#32) := rfl
theorem q96 : k0_pay96 x0 x1 x2 x3 = after lanes (dist x0 x1) 23 := by
  unfold k0_pay96; rw [q81, q93, q94, q95, q61]
theorem q97 : k0_pay97 x0 x1 x2 x3 = rowMin (after lanes (dist x0 x1) 23) := by
  unfold k0_pay97; rw [q81, q93, q94, q95, q62]
theorem q98 : k0_pay98 x0 x1 x2 x3 = after lanes (dist x0 x1) 26 := by
  unfold k0_pay98; rw [q81, q96, q97, q68]
theorem q99 : k0_pay99 x0 x1 x2 x3 = cmpf .oeq lanes (along (sel lanes (after lanes (dist x0 x1) 26))) := by
  unfold k0_pay99; rw [q81, q96, q97, q70]
theorem q100 : k0_pay100 x0 x1 x2 x3 = broadcast S256x1024 (Scalar.ofBits .f32 0x7F800000#32) := rfl
theorem q101 : k0_pay101 x0 x1 x2 x3 = sel lanes (after lanes (dist x0 x1) 30) := by
  unfold k0_pay101; rw [q81, q98, q99, q100, q79]

/-- The columns side by side. -/
def cols : FVec F S256x32 .f32 :=
  concatenate S256x32 1 (List.ofFn fun j : Fin 32 => ⟨S256x1, sel lanes (after lanes (dist x0 x1) j.val)⟩)
    concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1

/-- What a block's rows are given. -/
theorem out_idx : out0_4 x0 x1 x2 x3 = View.canon [⟨r0_5, fptosi 32 (cols x0 x1)⟩] := by
  unfold out0_4
  simp only [q80, q81, q82, q83, q84, q85, q86, q87, q88, q89, q90, q91, q92, q93, q94, q95, q96, q97, q98, q99, q100, q101]
  rw [q11, q13, q15, q19, q21, q23, q25, q28, q30, q32, q34, q38, q40, q42, q46, q48, q50, q54, q56, q58, q60, q63, q65, q67, q69, q73, q75, q77, q78, q1, q2]
  rfl

end Cert.Proof.Nearest

end
-- ==== Proof.Rounds.lean ====
/-  Rounds of "take the least, the lowest place first, and strike it out" pick the places in the order of the stable sort. -/
module

public import Idealize.ShloMosaic.Lib.SortPrefix
public import Idealize.ShloMosaic.Lib.SortFacts
public import Idealize.ShloMosaic.PureOps.Ideal

@[expose] public section

noncomputable section

namespace Cert.Proof.Nearest

open Idealize.ShloMosaic

variable {n : ℕ}

/-- The place of a lane, as the extended real the rounds carry. -/
abbrev place (i : Fin n) : EReal := ((i.val : ℝ) : EReal)

/-- The least value. -/
def least (d : Fin n → EReal) : EReal := Finset.univ.fold min ⊤ d

/-- The lowest place that holds the least value. -/
def pick (big : EReal) (d : Fin n → EReal) : EReal :=
  Finset.univ.fold min ⊤ fun i => if d i = least d then place i else big

/-- The values with the picked place struck out. -/
def strike (big : EReal) (d : Fin n → EReal) : Fin n → EReal := fun i => if place i = pick big d then ⊤ else d i

/-- The values at the start of a round. -/
def rounds (big : EReal) (d : Fin n → EReal) : ℕ → Fin n → EReal
  | 0 => d
  | j + 1 => strike big (rounds big d j)

theorem place_inj {i j : Fin n} : place i = place j ↔ i = j := by
  unfold place
  rw [EReal.coe_eq_coe_iff, Nat.cast_inj, Fin.val_inj]

theorem place_le {i j : Fin n} : place i ≤ place j ↔ i ≤ j := by
  unfold place
  rw [EReal.coe_le_coe_iff, Nat.cast_le, Fin.le_def]

/-- "The lesser value first." -/
def before (d : Fin n → EReal) (a b : Fin n) : Bool := decide (d a < d b)

/-- "The lesser value first, and of equal values the lower place." -/
def first (d : Fin n → EReal) (a b : Fin n) : Bool := decide (d a < d b) || (decide (d a = d b) && decide (a < b))

theorem first_total (d : Fin n → EReal) : StrictTotalBefore (first d) :=
  StrictTotalBefore.of_key_then_position (fun x y => decide (x < y)) d (fun _ => by simp)
    (fun a b c h h' => by simp only [decide_eq_true_eq] at *; exact lt_trans h h')
    (fun a b => by simp only [decide_eq_true_eq]; exact lt_trichotomy a b)

/-- Sorting places in ascending order stably is sorting them by value and then by place. -/
theorem stableSort_before (d : Fin n → EReal) (l : List (Fin n)) (hl : l.Pairwise (· < ·)) :
    stableSort (before d) l = stableSort (first d) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have hba : ¬ b < a := not_lt.mpr hab.le
    simp [before, first, hba]

/-- The places in sorted order. -/
def order (d : Fin n → EReal) : List (Fin n) := sortPositions n (before d)

theorem order_eq (d : Fin n → EReal) : order d = stableSort (first d) (List.finRange n) :=
  stableSort_before d _ (List.pairwise_lt_finRange n)

theorem order_length (d : Fin n → EReal) : (order d).length = n := length_sortPositions n _

theorem mem_order (d : Fin n → EReal) (i : Fin n) : i ∈ order d :=
  (perm_sortPositions n (before d)).mem_iff.mpr (List.mem_finRange i)

theorem order_nodup (d : Fin n → EReal) : (order d).Nodup :=
  (perm_sortPositions n (before d)).nodup_iff.mpr (List.nodup_finRange n)

/-- The place at rank `j`. -/
def nth (d : Fin n → EReal) (j : Fin n) : Fin n := sortedFrom (before d) j

theorem nth_inj (d : Fin n → EReal) {i j : Fin n} : nth d i = nth d j ↔ i = j :=
  (sortedFrom_injective (before d)).eq_iff

theorem nth_surj (d : Fin n → EReal) (i : Fin n) : ∃ j, nth d j = i := sortedFrom_surjective (before d) i

/-- Of two ranks the lower holds the lesser value, or an equal one at a lower place. -/
theorem nth_first (d : Fin n → EReal) {i j : Fin n} (h : i < j) : first d (nth d j) (nth d i) = false := by
  have hp : (order d).Pairwise fun a b => first d b a = false := by
    rw [order_eq]; exact (first_total d).sorted_stableSort _
  exact List.pairwise_iff_get.mp hp (i.cast (order_length d).symm) (j.cast (order_length d).symm) h

theorem nth_le (d : Fin n → EReal) {i j : Fin n} (h : i ≤ j) : d (nth d i) ≤ d (nth d j) := by
  rcases h.eq_or_lt with rfl | h
  · exact le_rfl
  · have := nth_first d h
    simp only [first, Bool.or_eq_false_iff, decide_eq_false_iff_not] at this
    exact not_lt.mp this.1

theorem nth_place (d : Fin n → EReal) {i j : Fin n} (h : i ≤ j) (he : d (nth d j) = d (nth d i)) : nth d i ≤ nth d j := by
  rcases h.eq_or_lt with rfl | h
  · exact le_rfl
  · have := nth_first d h
    simp only [first, Bool.or_eq_false_iff, Bool.and_eq_false_iff, decide_eq_false_iff_not] at this
    rcases this.2 with h' | h'
    · exact absurd he h'
    · exact not_lt.mp h'

variable (big : EReal) (d : Fin n → EReal)

/-- The values at the start of round `j`: those of a lower rank struck out. -/
def struck (j : ℕ) : Fin n → EReal := fun i => if ∃ k : Fin n, k.val < j ∧ nth d k = i then ⊤ else d i

theorem struck_nth (j : ℕ) (k : Fin n) : struck d j (nth d k) = if k.val < j then ⊤ else d (nth d k) := by
  unfold struck
  by_cases h : k.val < j
  · rw [if_pos h, if_pos ⟨k, h, rfl⟩]
  · rw [if_neg h, if_neg]
    rintro ⟨k', hk', e⟩
    rw [nth_inj] at e; subst e; exact h hk'

theorem least_struck (j : Fin n) : least (struck d j.val) = d (nth d j) := by
  unfold least
  apply le_antisymm
  · rw [Finset.fold_min_le]
    refine Or.inr ⟨nth d j, Finset.mem_univ _, ?_⟩
    rw [struck_nth, if_neg (lt_irrefl _)]
  · rw [Finset.le_fold_min]
    refine ⟨le_top, fun i _ => ?_⟩
    obtain ⟨k, rfl⟩ := nth_surj d i
    rw [struck_nth]
    split
    · exact le_top
    · rename_i h
      exact nth_le d (not_lt.mp h)

/-- The round's pick is the place at its rank. -/
theorem pick_struck (hd : ∀ i, d i < ⊤) (hbig : ∀ i : Fin n, place i ≤ big) (j : Fin n) :
    pick big (struck d j.val) = place (nth d j) := by
  unfold pick
  rw [least_struck]
  apply le_antisymm
  · rw [Finset.fold_min_le]
    refine Or.inr ⟨nth d j, Finset.mem_univ _, ?_⟩
    rw [struck_nth, if_neg (lt_irrefl _), if_pos rfl]
  · rw [Finset.le_fold_min]
    refine ⟨le_top, fun i _ => ?_⟩
    obtain ⟨k, rfl⟩ := nth_surj d i
    rw [struck_nth]
    by_cases h : k.val < j.val
    · rw [if_pos h, if_neg (hd _).ne']; exact hbig _
    · rw [if_neg h]
      split
      · rename_i e
        exact place_le.mpr (nth_place d (not_lt.mp h) e)
      · exact hbig _

theorem strike_struck (hd : ∀ i, d i < ⊤) (hbig : ∀ i : Fin n, place i ≤ big) (j : Fin n) :
    strike big (struck d j.val) = struck d (j.val + 1) := by
  funext i
  unfold strike
  rw [pick_struck big d hd hbig]
  obtain ⟨k, rfl⟩ := nth_surj d i
  rw [struck_nth, struck_nth]
  simp only [place_inj, nth_inj]
  by_cases h : k.val < j.val
  · rw [if_pos h, if_pos (Nat.lt_succ_of_lt h)]; simp
  · rw [if_neg h]
    by_cases e : k = j
    · subst e; simp
    · have : ¬ k.val < j.val + 1 := fun h' => e (Fin.ext (by omega))
      rw [if_neg e, if_neg this]

theorem rounds_eq (hd : ∀ i, d i < ⊤) (hbig : ∀ i : Fin n, place i ≤ big) (j : ℕ) (hj : j ≤ n) : rounds big d j = struck d j := by
  induction j with
  | zero => funext i; simp [rounds, struck]
  | succ j ih =>
    show strike big (rounds big d j) = _
    rw [ih (Nat.le_of_succ_le hj)]
    exact strike_struck big d hd hbig ⟨j, hj⟩

/-- Round `j` picks the place at rank `j`. -/
theorem pick_rounds (hd : ∀ i, d i < ⊤) (hbig : ∀ i : Fin n, place i ≤ big) (j : Fin n) :
    pick big (rounds big d j.val) = place (sortedFrom (before d) j) := by
  rw [rounds_eq big d hd hbig j.val j.isLt.le]
  exact pick_struck big d hd hbig j

end Cert.Proof.Nearest

end
-- ==== Proof.NearestRow.lean ====
/-  A row of a block under one round of the kernel, over the extended reals. -/
module

public import proofs.«01_k».proof.Proof.NearestBlock
public import proofs.«01_k».proof.Proof.Rounds
public import Idealize.ShloMosaic.Lib.Pointwise

@[expose] public section

set_option maxRecDepth 16384

noncomputable section

namespace Cert.Proof.Nearest

open Idealize.ShloMosaic Idealize.ShloMosaic.TcCoe
open Cert.NearestIdeal Cert.NearestIdeal.Gen

/-- A row of a block. -/
def row (d : FVec Ideal S256x1024 .f32) (r : Fin 256) : Fin 1024 → EReal := fun i => d (ix2 r i)

/-- The number that stands for "no lane" in a round. -/
def big : EReal := Ideal.ofBits .f32 0x4E6E6B28#32

theorem big_eq : big = ((1000000000 : ℝ) : EReal) := by
  unfold big
  simp [Ideal.ofBits, Ideal.ieee, -EReal.coe_mul]
  norm_num

theorem top_eq : Ideal.ofBits .f32 0x7F800000#32 = (⊤ : EReal) := by simp [Ideal.ofBits, Ideal.ieee]

theorem rowMin_at (d : FVec Ideal S256x1024 .f32) (r : Fin 256) (z : Fin 1) : rowMin d (ix2 r z) = least (row d r) := by
  unfold least row
  pointwise [rowMin]
  rw [top_eq]

theorem lanes_at (r : Fin 256) (i : Fin 1024) : lanes (F := Ideal) (ix2 r i) = place i := by
  pointwise [lanes, k0_pay8]
  show (((BitVec.ofNat 32 i.val).toInt : ℝ) : EReal) = place i
  have h : (BitVec.ofNat 32 i.val).toInt = (i.val : ℤ) := by
    have := i.isLt
    rw [BitVec.toInt_eq_toNat_cond, BitVec.toNat_ofNat, Nat.mod_eq_of_lt (by omega)]
    rw [if_pos (by omega)]
  rw [h]
  simp [place]

theorem sel_at (d : FVec Ideal S256x1024 .f32) (r : Fin 256) (z : Fin 1) :
    sel lanes d (ix2 r z) = pick big (row d r) := by
  unfold sel
  rw [rowMin_at]
  unfold pick
  congr 1
  funext i
  unfold row
  pointwise [lanesAt, along]
  rw [rowMin_at, lanes_at]
  rfl

theorem nxt_at (d : FVec Ideal S256x1024 .f32) (r : Fin 256) : row (nxt lanes d) r = strike big (row d r) := by
  funext i
  unfold row strike
  pointwise [nxt, along]
  rw [lanes_at, sel_at, top_eq]
  rfl

theorem after_at (d : FVec Ideal S256x1024 .f32) (r : Fin 256) :
    ∀ j, row (after lanes d j) r = rounds big (row d r) j
  | 0 => rfl
  | j + 1 => (nxt_at _ r).trans (congrArg (strike big) (after_at d r j))

theorem place_le_big (i : Fin 1024) : place i ≤ big := by
  rw [big_eq]
  unfold place
  rw [EReal.coe_le_coe_iff]
  have : (i.val : ℝ) < 1024 := by exact_mod_cast i.isLt
  linarith

/-- The `j`-th picked place of a row is the `j`-th of the row's stable sort. -/
theorem sel_after (d : FVec Ideal S256x1024 .f32) (r : Fin 256) (z : Fin 1) (j : Fin 1024) (hd : ∀ i, row d r i < ⊤) :
    sel lanes (after lanes d j.val) (ix2 r z) = place (sortedFrom (before (row d r)) j) := by
  rw [sel_at, after_at]
  exact pick_rounds big (row d r) hd place_le_big j

variable (x0 : Vec Ideal S1x256x3 .f32) (x1 : Vec Ideal S1x3x1024 .f32)

theorem cols_at (r : Fin 256) (j : Fin 32) :
    cols x0 x1 (ix2 r j) = sel lanes (after lanes (dist x0 x1) j.val) (ix2 r 0) := by
  unfold cols
  refine (concatenate_ofFn_unit_apply (t := S256x32) (s₁ := S256x1) 1
    (fun j : Fin 32 => sel lanes (after lanes (dist x0 x1) j.val)) _ rfl rfl (ix2 r j) j rfl (ix2 r 0) ?_)
  intro b hb
  match b, hb with
  | ⟨0, _⟩, _ => rfl
  | ⟨1, _⟩, hb => exact absurd rfl hb

/-- The number a picked place is stored as. -/
theorem toWord (i : Fin 1024) : FloatOps.fptosi (F := Ideal) (φ := .f32) 32 (place i) = BitVec.ofNat 32 i.val := by
  have hi : ((i.val : ℕ) : ℤ) < 1024 := by exact_mod_cast i.isLt
  show Ideal.fptosi 32 (((i.val : ℝ)) : EReal) = _
  unfold Ideal.fptosi
  rw [Ideal.toIntClamped_coe, if_pos (by positivity), Int.floor_natCast, min_eq_right (by norm_num; omega),
    max_eq_right (by norm_num), BitVec.ofInt_natCast]

/-- The places stored for a row. -/
theorem cols_word (r : Fin 256) (j : Fin 32) (hd : ∀ i, row (dist x0 x1) r i < ⊤) :
    fptosi 32 (cols x0 x1) (ix2 r j)
      = BitVec.ofNat 32 (sortedFrom (before (row (dist x0 x1) r)) ⟨j.val, by omega⟩).val := by
  show FloatOps.fptosi (F := Ideal) (φ := .f32) 32 (cols x0 x1 (ix2 r j)) = _
  rw [cols_at, sel_after (dist x0 x1) r 0 ⟨j.val, by omega⟩ hd, toWord]

/-- How far one point is from another. -/
def apart (p q : Fin 3 → EReal) : EReal :=
  Ideal.sqrt ((p 0 - q 0) * (p 0 - q 0) + (p 1 - q 1) * (p 1 - q 1) + (p 2 - q 2) * (p 2 - q 2))

theorem dist_at (r : Fin 256) (i : Fin 1024) :
    dist x0 x1 (ix2 r i) = apart (fun c => x0 (ix3 0 r c)) (fun c => x1 (ix3 0 c i)) := by
  unfold apart
  pointwise [dist, k0_pay7, k0_pay5]

/-- Points at finite places are a finite distance apart. -/
theorem apart_lt (p q : Fin 3 → EReal) (hp : ∀ c, p c ≠ ⊥ ∧ p c ≠ ⊤) (hq : ∀ c, q c ≠ ⊥ ∧ q c ≠ ⊤) : apart p q < ⊤ := by
  obtain ⟨u, hu⟩ : ∃ u : Fin 3 → ℝ, ∀ c, p c = (u c : EReal) :=
    ⟨fun c => (p c).toReal, fun c => (EReal.coe_toReal (hp c).2 (hp c).1).symm⟩
  obtain ⟨v, hv⟩ : ∃ v : Fin 3 → ℝ, ∀ c, q c = (v c : EReal) :=
    ⟨fun c => (q c).toReal, fun c => (EReal.coe_toReal (hq c).2 (hq c).1).symm⟩
  unfold apart
  simp only [hu, hv, ← EReal.coe_sub, ← EReal.coe_mul, ← EReal.coe_add]
  rw [Ideal.sqrt_coe]
  split
  · exact bot_lt_top
  · exact EReal.coe_lt_top _

/-- The features of a row. -/
theorem feat_at (x2 : Vec Ideal S128x3 .f32) (x3 : Vec Ideal S1x128 .f32) (r : Fin 256) (c : Fin 128) :
    k0_pay6 x0 x2 x3 (ix2 r c) = (∑ k : Fin 3, x0 (ix3 0 r k) * x2 (ix2 c k)) * x3 (ix2 0 c) := by
  pointwise [k0_pay6, k0_pay5]

end Cert.Proof.Nearest

end
-- ==== Proof.NearestRef.lean ====
/-  The reference's nearest places and features, at an index. -/
module

public import proofs.«01_k».proof.Proof.Gen.NearestRefIdeal.Run
public import proofs.«01_k».proof.Proof.NearestRow

@[expose] public section

set_option maxRecDepth 16384

noncomputable section

namespace Cert.Proof.Nearest

open Idealize.ShloMosaic Idealize.ShloMosaic.TcCoe
open Cert.NearestRefIdeal Cert.NearestRefIdeal.Gen

/-- The places of the greatest entries of a row: its stable sort by "greater first". -/
theorem topIdx (x : FVec Ideal S1x1024x1024 .f32) (h : S1x1024x1024.Slices (fun _ => 0) S1x1024x32)
    (r : Fin 1024) (j : Fin 32) :
    (Host.topK S1x1024x32 2 (FloatOps.cmpfTotal .gt) x h).2 (ix3 0 r j)
      = BitVec.ofNat 32 (sortedFrom (fun a b : Fin 1024 => decide (x (ix3 0 r b) < x (ix3 0 r a))) ⟨j.val, by omega⟩).val := by
  have hd : 2 < S1x1024x1024.rank := by decide
  let y : IVec S1x1024x1024 32 := fun i => if hd : 2 < S1x1024x1024.rank then iotaInDim S1x1024x1024 32 ⟨2, hd⟩ i else 0#32
  let cmp : EReal × BitVec 32 → EReal × BitVec 32 → BitVec 1 :=
    fun l r => FloatOps.cmpfTotal (F := Ideal) (φ := .f32) .gt l.1 r.1
  let j' : Fin 1024 := ⟨j.val, by omega⟩
  have hx : ∀ Y : IVec S1x1024x1024 32, extractStridedSlice S1x1024x32 (fun _ => 0) Y h (ix3 0 r j) = Y (ix3 0 r j') := by
    intro Y
    pointwise
    rfl
  have hk : ∀ k : Fin 1024, (ix3 0 r j' : S1x1024x1024.Idx).along (⟨2, hd⟩ : Fin S1x1024x1024.rank) k = ix3 0 r k := by
    intro k
    funext a
    match a with
    | ⟨0, _⟩ => rfl
    | ⟨1, _⟩ => rfl
    | ⟨2, _⟩ => rfl
  have hs : (Host.sort2 S1x1024x1024 2 cmp x y).2 (ix3 0 r j')
      = y (ix3 0 r (sortedFrom (fun a b : Fin 1024 => decide (x (ix3 0 r b) < x (ix3 0 r a))) j')) := by
    unfold Host.sort2
    rw [dif_pos hd]
    show y ((ix3 0 r j' : S1x1024x1024.Idx).along ⟨2, hd⟩ (sortedFrom (n := 1024) _ j')) = _
    rw [hk]
    refine congrArg (fun k => y (ix3 0 r k)) (congrArg (fun f => sortedFrom (n := 1024) f j') ?_)
    funext a b
    show (BitVec.ofBool (decide (x ((ix3 0 r j' : S1x1024x1024.Idx).along ⟨2, hd⟩ b) < x ((ix3 0 r j' : S1x1024x1024.Idx).along ⟨2, hd⟩ a))) == 1#1) = _
    have e : ∀ p q : Bool, p = q → (BitVec.ofBool p == 1#1) = q := by decide
    exact e _ _ (by rw [congrArg x (hk a), congrArg x (hk b)])
  exact (hx _).trans hs

variable (P : FVec Ideal S1x1024x3 .f32) (W : FVec Ideal S128x3 .f32) (g v : FVec Ideal S128 .f32)

/-- The reference's distances. -/
def refDist : FVec Ideal S1x1024x1024 .f32 :=
  Host.sqrt (Host.reduceAdd (mulf (subf (broadcastInDim S1x1024x1024x3 ![0, 1, 2, 3] bcast_S1x1024x1x3_S1x1024x1024x3_0_1_2_3 (broadcastInDim S1x1024x1x3 ![0, 1, 3] bcast_S1x1024x3_S1x1024x1x3_0_1_3 P)) (broadcastInDim S1x1024x1024x3 ![0, 1, 2, 3] bcast_S1x1x1024x3_S1x1024x1024x3_0_1_2_3 (broadcastInDim S1x1x1024x3 ![0, 2, 3] bcast_S1x1024x3_S1x1x1024x3_0_2_3 P))) (subf (broadcastInDim S1x1024x1024x3 ![0, 1, 2, 3] bcast_S1x1024x1x3_S1x1024x1024x3_0_1_2_3 (broadcastInDim S1x1024x1x3 ![0, 1, 3] bcast_S1x1024x3_S1x1024x1x3_0_1_3 P)) (broadcastInDim S1x1024x1024x3 ![0, 1, 2, 3] bcast_S1x1x1024x3_S1x1024x1024x3_0_1_2_3 (broadcastInDim S1x1x1024x3 ![0, 2, 3] bcast_S1x1024x3_S1x1x1024x3_0_2_3 P)))) (constant S_ .f32 0x00000000#32) reducesTo_S1x1024x1024x3_S1x1024x1024_d3 h_S_)

theorem refDist_at (r i : Fin 1024) :
    refDist P (ix3 0 r i) = apart (fun c => P (ix3 0 r c)) (fun c => P (ix3 0 i c)) := by
  unfold apart
  pointwise [refDist]
  rw [Fin.sum_univ_three]

/-- The reference's places. -/
def refIdx : IVec S1024x32 32 :=
  shapeCast _ ((Host.topK S1x1024x32 2 (FloatOps.cmpfTotal .gt) (Host.negf (refDist P)) sliceFits_S1x1024x1024_S1x1024x32).2) shapeCasts_S1x1024x32_S1024x32

theorem refIdx_at (r : Fin 1024) (j : Fin 32) :
    refIdx P (ix2 r j) = BitVec.ofNat 32 (sortedFrom (before fun i : Fin 1024 => refDist P (ix3 0 r i)) ⟨j.val, by omega⟩).val := by
  have h : refIdx P (ix2 r j)
      = (Host.topK S1x1024x32 2 (FloatOps.cmpfTotal .gt) (Host.negf (refDist P)) sliceFits_S1x1024x1024_S1x1024x32).2 (ix3 0 r j) := by
    pointwise [refIdx]
  rw [h, topIdx]
  congr 3
  funext a b
  unfold before
  have e : ∀ c, Host.negf (refDist P) (ix3 0 r c) = -(refDist P (ix3 0 r c)) := fun _ => rfl
  rw [e, e]
  exact decide_eq_decide.mpr EReal.neg_lt_neg_iff

/-- The reference's features. -/
def refFeat : FVec Ideal S1024x128 .f32 :=
  shapeCast _ (mulf (Host.divf (Host.dotGeneral dot_S1x1024x3_S3x128_S1x1024x128_2_0_01_1_n_n none P (transpose S3x128 [1, 0] W transposes_S128x3_S3x128_1_0)) (broadcastInDim S1x1024x128 ![0, 1, 2] bcast_S1x1x128_S1x1024x128_0_1_2 (broadcastInDim S1x1x128 ![2] bcast_S128_S1x1x128_2 (Host.sqrt (addf v (broadcastInDim S128 ![] bcast_S_S128 (constant S_ .f32 0x3727C5AC#32))))))) (broadcastInDim S1x1024x128 ![0, 1, 2] bcast_S1x1x128_S1x1024x128_0_1_2 (broadcastInDim S1x1x128 ![2] bcast_S128_S1x1x128_2 g))) shapeCasts_S1x1024x128_S1024x128

theorem refFeat_at (r : Fin 1024) (c : Fin 128) :
    refFeat P W g v (ix2 r c)
      = Ideal.div (∑ k : Fin 3, P (ix3 0 r k) * W (ix2 c k)) (Ideal.sqrt (v (ix1 c) + Ideal.ofBits .f32 0x3727C5AC#32)) * g (ix1 c) := by
  pointwise [refFeat]

end Cert.Proof.Nearest

end
-- ==== Proof.EncodeReal.lean ====
/-  Real numbers among the extended ones, and what the encoder's precondition says. -/
module

public import Idealize.ShloMosaic.Lib.Pointwise
public import Idealize.ShloMosaic.Lib.ValueIdx
public import Idealize.ShloMosaic.Lib.ReduceAll
public import proofs.«01_k».proof.Proof.Gen.Pre_enc_sound

@[expose] public section

set_option maxRecDepth 16384

noncomputable section

namespace Cert.Proof.Encode

open Idealize.ShloMosaic Idealize.ShloMosaic.TcCoe

/-- The extended real is a real. -/
def Num (x : EReal) : Prop := ∃ r : ℝ, x = (r : EReal)

theorem Num.add {x y : EReal} : Num x → Num y → Num (x + y) := by
  rintro ⟨a, rfl⟩ ⟨b, rfl⟩; exact ⟨a + b, (EReal.coe_add a b).symm⟩
theorem Num.sub {x y : EReal} : Num x → Num y → Num (x - y) := by
  rintro ⟨a, rfl⟩ ⟨b, rfl⟩; exact ⟨a - b, (EReal.coe_sub a b).symm⟩
theorem Num.mul {x y : EReal} : Num x → Num y → Num (x * y) := by
  rintro ⟨a, rfl⟩ ⟨b, rfl⟩; exact ⟨a * b, (EReal.coe_mul a b).symm⟩
theorem Num.zero : Num 0 := ⟨0, EReal.coe_zero.symm⟩
theorem Num.max {x y : EReal} : Num x → Num y → Num (Max.max x y) := by
  intro hx hy
  rcases max_choice x y with h | h <;> rw [h] <;> assumption
theorem Num.sum {ι : Type*} (s : Finset ι) (f : ι → EReal) (h : ∀ i, Num (f i)) : Num (∑ i ∈ s, f i) := by
  classical
  induction s using Finset.induction_on with
  | empty => exact Num.zero
  | insert a s ha ih => rw [Finset.sum_insert ha]; exact (h a).add ih

/-- The greatest of some reals, from the least extended real, is a real. -/
theorem Num.fold {n : ℕ} (hn : 0 < n) (f : Fin n → EReal) (h : ∀ i, Num (f i)) : Num (Finset.fold Max.max ⊥ f Finset.univ) := by
  have hs : ∀ s : Finset (Fin n), s.Nonempty → Num (Finset.fold Max.max ⊥ f s) := by
    intro s hs
    induction hs using Finset.Nonempty.cons_induction with
    | singleton a => rw [Finset.fold_singleton, max_bot_right]; exact h a
    | cons a s ha _ ih => rw [Finset.fold_cons]; exact (h a).max ih
  exact hs _ ⟨⟨0, hn⟩, Finset.mem_univ _⟩

theorem bot_eq : Ideal.ofBits .f32 0xFF800000#32 = (⊥ : EReal) := by simp [Ideal.ofBits, Ideal.ieee]
theorem inf_eq : Ideal.ofBits .f32 0x7F800000#32 = (⊤ : EReal) := by simp [Ideal.ofBits, Ideal.ieee]

/-- Dividing by the root of a number that is not zero is multiplying by a real. -/
theorem div_root {v : EReal} (hv : v ≠ 0) : ∃ w : ℝ, ∀ x, Ideal.div x (Ideal.sqrt v) = x * (w : EReal) := by
  have none : ∀ x, Ideal.div x (⊥ : EReal) = x * ((0 : ℝ) : EReal) := by
    intro x
    unfold Ideal.div
    rw [if_neg (by simp), EReal.inv_bot, EReal.coe_zero]
  induction v using EReal.rec with
  | bot => exact ⟨0, none⟩
  | top =>
    refine ⟨0, fun x => ?_⟩
    show Ideal.div x ⊤ = _
    unfold Ideal.div
    rw [if_neg (by simp), EReal.inv_top, EReal.coe_zero]
  | coe r =>
    have hr : r ≠ 0 := by exact_mod_cast hv
    rcases lt_or_gt_of_ne hr with hr | hr
    · have e : Ideal.sqrt (r : EReal) = ⊥ := if_pos hr
      exact ⟨0, fun x => by rw [e]; exact none x⟩
    · have e : Ideal.sqrt (r : EReal) = (Real.sqrt r : EReal) := if_neg (not_lt.mpr hr.le)
      refine ⟨(Real.sqrt r)⁻¹, fun x => ?_⟩
      rw [e]
      unfold Ideal.div
      rw [if_neg (by exact_mod_cast (Real.sqrt_pos.mpr hr).ne'), EReal.coe_inv]

/-- A real sum in front of a real factor. -/
theorem scale {S s : EReal} (hS : Num S) (hs : Num s) (d : EReal) : (S + d) * s = S * s + d * s := by
  obtain ⟨a, rfl⟩ := hS
  obtain ⟨b, rfl⟩ := hs
  induction d using EReal.rec with
  | coe r => rw [← EReal.coe_add, ← EReal.coe_mul, ← EReal.coe_mul, ← EReal.coe_mul, ← EReal.coe_add, add_mul]
  | top =>
    rw [EReal.coe_add_top]
    rcases lt_trichotomy b 0 with h | rfl | h
    · rw [EReal.top_mul_coe_of_neg h, EReal.add_bot]
    · simp
    · rw [EReal.top_mul_coe_of_pos h, ← EReal.coe_mul, EReal.coe_add_top]
  | bot =>
    rw [EReal.add_bot]
    rcases lt_trichotomy b 0 with h | rfl | h
    · rw [EReal.bot_mul_coe_of_neg h, ← EReal.coe_mul, EReal.coe_add_top]
    · simp
    · rw [EReal.bot_mul_coe_of_pos h, EReal.add_bot]

/-- A real factor goes into a sum of reals. -/
theorem sum_scale {n : ℕ} (f : Fin n → EReal) (hf : ∀ i, Num (f i)) {s : EReal} (hs : Num s) :
    (∑ i, f i) * s = ∑ i, f i * s := by
  have h : ∀ t : Finset (Fin n), (∑ i ∈ t, f i) * s = ∑ i ∈ t, f i * s := by
    intro t
    induction t using Finset.induction_on with
    | empty => simp
    | insert a t ha ih => rw [Finset.sum_insert ha, Finset.sum_insert ha, scale (hf a) hs, ih]
  exact h _

/-- The scale and the shift of a normalisation, taken inside the sums of a product it follows. -/
theorem norm_fold {n : ℕ} (x w : Fin n → EReal) (hx : ∀ i, Num (x i)) (hw : ∀ i, Num (w i)) {g v : EReal} (hg : Num g) (hv : v ≠ 0)
    (b r t : EReal) :
    ∑ i, x i * (w i * Ideal.div g (Ideal.sqrt v)) + ((b - r) * Ideal.div g (Ideal.sqrt v) + t)
      = Ideal.div (∑ i, x i * w i + b - r) (Ideal.sqrt v) * g + t := by
  obtain ⟨q, hq⟩ := div_root hv
  have hs : Num (g * (q : EReal)) := hg.mul ⟨q, rfl⟩
  have hxw : ∀ i, Num (x i * w i) := fun i => (hx i).mul (hw i)
  rw [hq, hq, mul_assoc, mul_comm (q : EReal) g, sub_eq_add_neg, sub_eq_add_neg, add_assoc (∑ i, x i * w i) b (-r),
    scale (Num.sum _ _ hxw) hs, sum_scale _ hxw hs, ← add_assoc]
  exact congrArg (· + _ + t) (Finset.sum_congr rfl fun i _ => (mul_assoc _ _ _).symm)

/-- The scale of a normalisation before its division or after it. -/
theorem norm_swap (x g : EReal) {v : EReal} (hv : v ≠ 0) :
    Ideal.div x (Ideal.sqrt v) * g = x * Ideal.div g (Ideal.sqrt v) := by
  obtain ⟨q, hq⟩ := div_root hv
  rw [hq, hq, mul_assoc, mul_comm (q : EReal) g]

/-! ## The precondition -/

abbrev S0 : Shape := ⟨0, ![]⟩

theorem and_parts (a b : IVec S0 1) (h : andi a b = fun _ => 1#1) : a = (fun _ => 1#1) ∧ b = fun _ => 1#1 := by
  have hb : ∀ x y : BitVec 1, x &&& y = 1#1 → x = 1#1 ∧ y = 1#1 := by decide
  exact ⟨funext fun i => (hb _ _ (congrFun h i)).1, funext fun i => (hb _ _ (congrFun h i)).2⟩

theorem num_of_lt {x : EReal} (e : BitVec.ofBool (decide (FloatOps.absf (F := Ideal) (φ := .f32) x < Ideal.ofBits FTy.f32 0x7F800000#32)) = 1#1) : Num x := by
  have lt : max x (-x) < (⊤ : EReal) := by
    by_contra hn
    have hz : decide (FloatOps.absf (F := Ideal) (φ := .f32) x < Ideal.ofBits FTy.f32 0x7F800000#32) = false := by
      rw [inf_eq]
      exact decide_eq_false hn
    rw [hz] at e
    exact absurd e (by decide)
  induction x using EReal.rec with
  | bot => exact absurd lt (by simp)
  | top => exact absurd lt (by simp)
  | coe r => exact ⟨r, rfl⟩

/-- A whole array of reals. -/
theorem nums {s : Shape} {axes : List (Fin s.rank)} (x : FVec Ideal s .f32) (hb : S0.BroadcastsInDim s (![] : Fin 0 → Fin s.rank)) (hr : s.ReducesTo axes S0) (h0 : 0 < S0.numel)
    (h : Host.reduce IntOp.andi (cmpf .olt (Host.absf x) (broadcastInDim s ![] hb (constant (F := Ideal) S0 .f32 0x7F800000#32))) (constantI S0 1 1#1) hr h0 = fun _ => 1#1)
    (i : s.Idx) : Num (x i) := by
  haveI : Subsingleton S0.Idx := ⟨fun a b => funext fun i => i.elim0⟩
  have e := Host.reduce_andi_all _ _ _ _ (fun i => i.elim0) (congrFun h (fun i => i.elim0)) i
  pointwise at e
  exact num_of_lt e

/-- A whole array of variances whose roots can be divided by. -/
theorem roots {s : Shape} {axes : List (Fin s.rank)} (x : FVec Ideal s .f32) (hb hb' : S0.BroadcastsInDim s (![] : Fin 0 → Fin s.rank)) (hr : s.ReducesTo axes S0) (h0 : 0 < S0.numel)
    (h : Host.reduce IntOp.andi (cmpf .une (addf x (broadcastInDim s ![] hb (constant (F := Ideal) S0 .f32 0x3727C5AC#32)))
      (broadcastInDim s ![] hb' (constant (F := Ideal) S0 .f32 0x00000000#32))) (constantI S0 1 1#1) hr h0 = fun _ => 1#1)
    (i : s.Idx) : x i + Ideal.ofBits .f32 0x3727C5AC#32 ≠ 0 := by
  haveI : Subsingleton S0.Idx := ⟨fun a b => funext fun i => i.elim0⟩
  have e := Host.reduce_andi_all _ _ _ _ (fun i => i.elim0) (congrFun h (fun i => i.elim0)) i
  pointwise at e
  intro hn
  rw [decide_eq_false (not_not.mpr hn)] at e
  exact absurd e (by decide)

open Cert.Pre_enc_sound in
/-- The inputs are reals where the sums need it, and the variances' roots can be divided by. -/
structure Sound (A : FVec Ideal S32768x128 .f32) (C : FVec Ideal S1024x128 .f32) (b1 : FVec Ideal S128 .f32) (g1 : FVec Ideal S128 .f32) (bt1 : FVec Ideal S128 .f32) (rm1 : FVec Ideal S128 .f32) (rv1 : FVec Ideal S128 .f32) (W2 : FVec Ideal S256x128 .f32) (b2 : FVec Ideal S256 .f32) (W3 : FVec Ideal S512x512 .f32) (b3 : FVec Ideal S512 .f32) (g3 : FVec Ideal S512 .f32) (bt3 : FVec Ideal S512 .f32) (rm3 : FVec Ideal S512 .f32) (rv3 : FVec Ideal S512 .f32) (W4 : FVec Ideal S256x512 .f32) (b4 : FVec Ideal S256 .f32) : Prop where
  nA : ∀ i, Num (A i)
  nC : ∀ i, Num (C i)
  nb1 : ∀ i, Num (b1 i)
  ng1 : ∀ i, Num (g1 i)
  nbt1 : ∀ i, Num (bt1 i)
  nrm1 : ∀ i, Num (rm1 i)
  nW2 : ∀ i, Num (W2 i)
  nb2 : ∀ i, Num (b2 i)
  nW3 : ∀ i, Num (W3 i)
  ng3 : ∀ i, Num (g3 i)
  pv1 : ∀ i, rv1 i + Ideal.ofBits .f32 0x3727C5AC#32 ≠ 0
  pv3 : ∀ i, rv3 i + Ideal.ofBits .f32 0x3727C5AC#32 ≠ 0

open Cert.Pre_enc_sound in
theorem sound_of_pre (A : FVec Ideal S32768x128 .f32) (C : FVec Ideal S1024x128 .f32) (b1 : FVec Ideal S128 .f32) (g1 : FVec Ideal S128 .f32) (bt1 : FVec Ideal S128 .f32) (rm1 : FVec Ideal S128 .f32) (rv1 : FVec Ideal S128 .f32) (W2 : FVec Ideal S256x128 .f32) (b2 : FVec Ideal S256 .f32) (W3 : FVec Ideal S512x512 .f32) (b3 : FVec Ideal S512 .f32) (g3 : FVec Ideal S512 .f32) (bt3 : FVec Ideal S512 .f32) (rm3 : FVec Ideal S512 .f32) (rv3 : FVec Ideal S512 .f32) (W4 : FVec Ideal S256x512 .f32) (b4 : FVec Ideal S256 .f32)
    (h : fn (F := Ideal) A C b1 g1 bt1 rm1 rv1 W2 b2 W3 b3 g3 bt3 rm3 rv3 W4 b4 = fun _ => 1#1) : Sound A C b1 g1 bt1 rm1 rv1 W2 b2 W3 b3 g3 bt3 rm3 rv3 W4 b4 := by
  unfold fn fn_part1 fn_part2 fn_part3 at h
  dsimp only at h
  obtain ⟨h, v3⟩ := and_parts _ _ h
  obtain ⟨h, v1⟩ := and_parts _ _ h
  obtain ⟨h, k9⟩ := and_parts _ _ h
  obtain ⟨h, k8⟩ := and_parts _ _ h
  obtain ⟨h, k7⟩ := and_parts _ _ h
  obtain ⟨h, k6⟩ := and_parts _ _ h
  obtain ⟨h, k5⟩ := and_parts _ _ h
  obtain ⟨h, k4⟩ := and_parts _ _ h
  obtain ⟨h, k3⟩ := and_parts _ _ h
  obtain ⟨h, k2⟩ := and_parts _ _ h
  obtain ⟨k0, k1⟩ := and_parts _ _ h
  exact ⟨nums _ _ _ _ k0, nums _ _ _ _ k1, nums _ _ _ _ k2, nums _ _ _ _ k3, nums _ _ _ _ k4, nums _ _ _ _ k5, nums _ _ _ _ k6,
    nums _ _ _ _ k7, nums _ _ _ _ k8, nums _ _ _ _ k9, roots _ _ _ _ _ v1, roots _ _ _ _ _ v3⟩

end Cert.Proof.Encode

end
-- ==== Proof.NearestValue.lean ====
/-  What the nearest-places kernel leaves in its two result arrays. -/
module

public import proofs.«01_k».proof.Proof.NearestRef
public import proofs.«01_k».proof.Proof.EncodeReal
public import Idealize.ShloMosaic.Lib.Pipeline.ValueKit
public import Idealize.ShloMosaic.Lib.Claim
public import Idealize.ShloMosaic.Lib.ReduceAll
public import proofs.«01_k».proof.Proof.Gen.Pre_pos_sound

@[expose] public section

set_option maxRecDepth 16384

noncomputable section

namespace Cert.Proof.Nearest

open Idealize.ShloMosaic Idealize.ShloMosaic.TcCoe Idealize.SL.Sem
open Idealize.ShloMosaic.Pipeline (Dat)
open Cert.NearestIdeal Cert.NearestIdeal.Gen

variable (m : (ℓ : Loc nD τ sig) → Buf (Elt Ideal) ℓ)

/-- The block each window is on at a point. -/
theorem idx : ∀ t : Fin cfg0.N, win0_0.index t = ![0, t.val, 0] ∧ win0_1.index t = ![0, 0, 0] ∧ win0_2.index t = ![0, 0]
    ∧ win0_3.index t = ![0, 0] ∧ win0_4.index t = ![t.val, 0] ∧ win0_5.index t = ![t.val, 0] ∧ t.val < 4 :=
  (by decide +kernel : ∀ t : Fin grid0.N, _)

/-- A row of the array a block's row is. -/
def rowAt (t : Fin cfg0.N) (r : Fin 256) : Fin 1024 := ⟨256 * t.val + r.val, by have := (idx t).2.2.2.2.2.2; omega⟩

theorem blk0_at (c : Dev nD) (t : Fin cfg0.N) (r : Fin 256) (k : Fin 3) :
    (iblk m c 0 t : FVec Ideal S1x256x3 .f32) (ix3 0 r k) = m ((c : Thread nD τ).loc main_arg0) (ix3 0 (rowAt t r) k) := by
  blk_ext! [iblk, V, idx t]
  show t.val * 256 + r.val = 256 * t.val + r.val
  omega

theorem blk1_at (c : Dev nD) (t : Fin cfg0.N) (i : Fin 1024) (k : Fin 3) :
    (iblk m c 1 t : FVec Ideal S1x3x1024 .f32) (ix3 0 k i) = m ((c : Thread nD τ).loc main_arg0) (ix3 0 i k) := by
  blk_simp [iblk]
  entry_read
  pointwise
  blk_ext! [idx t]

/-- The variances of the first normalisation. -/
abbrev var (c : Dev nD) : FVec Ideal S128 .f32 := m ((c : Thread nD τ).loc main_arg3)

theorem blk3_at (c : Dev nD) (t : Fin cfg0.N) (o : Fin 128) :
    (iblk m c 3 t : FVec Ideal S1x128 .f32) (ix2 0 o)
      = Ideal.div (m ((c : Thread nD τ).loc main_arg2) (ix1 o))
        (Ideal.sqrt (var m c (ix1 o) + Ideal.ofBits .f32 0x3727C5AC#32)) := by
  have e : ((View.whole main_v5).slice (win0_3.rect t)).emb (ix2 0 o) = (ix2 0 o : S1x128.Idx) := by blk_ext [idx t]
  blk_simp [iblk]
  rw [e]
  entry_read
  pointwise

theorem blk2_at (c : Dev nD) (t : Fin cfg0.N) (o : Fin 128) (k : Fin 3) :
    (iblk m c 2 t : FVec Ideal S128x3 .f32) (ix2 o k) = m ((c : Thread nD τ).loc main_arg1) (ix2 o k) := by
  blk_ext! [iblk, V, idx t]

/-- No variance is the negative of what is added to it. -/
def Varied : Prop := ∀ (c : Dev nD) (i : S128.Idx), var m c i + Ideal.ofBits .f32 0x3727C5AC#32 ≠ 0

theorem final_feat (hv : Varied m) (c : Dev nD) : (dats m 0 c).arrAt 5 cfg0.N
    = refFeat (m ((c : Thread nD τ).loc main_arg0)) (m ((c : Thread nD τ).loc main_arg1)) (m ((c : Thread nD τ).loc main_arg2))
      (var m c) := by
  refine (dats m 0 c).arrAt_eq_of_covers 5 _ (by decide +kernel) fun t _ y => ?_
  obtain ⟨r, o, rfl⟩ : ∃ (r : Fin 256) (o : Fin 128), y = (ix2 r o : S256x128.Idx) := ⟨y 0, y 1, by idx_ext⟩
  have he : ((cfg0.win 5).blk t).view.emb (ix2 r o : S256x128.Idx) = (ix2 (rowAt t r) o : S1024x128.Idx) := by
    blk_ext [idx t]
    show t.val * 256 + r.val = 256 * t.val + r.val
    omega
  blk_simp
  rw [after0_5]; frame_out
  refine (feat_at (iblk m c 0 t) (iblk m c 2 t) (iblk m c 3 t) r o).trans (Eq.trans ?_
    (congrArg (refFeat (m ((c : Thread nD τ).loc main_arg0)) (m ((c : Thread nD τ).loc main_arg1)) (m ((c : Thread nD τ).loc main_arg2))
      (var m c)) he).symm)
  rw [refFeat_at, Encode.norm_swap _ _ (hv c (ix1 o)), blk3_at]
  simp only [blk0_at, blk2_at]

/-- The rows of the whole array have the distances of a block's rows. -/
theorem row_at (c : Dev nD) (t : Fin cfg0.N) (r : Fin 256) :
    row (dist (iblk m c 0 t) (iblk m c 1 t)) r = fun i => refDist (m ((c : Thread nD τ).loc main_arg0)) (ix3 0 (rowAt t r) i) := by
  funext i
  unfold row
  rw [refDist_at, dist_at]
  congr 1
  · funext k; exact blk0_at m c t r k
  · funext k; exact blk1_at m c t i k

/-- Every coordinate of every point is a real number. -/
def Placed : Prop := ∀ (c : Dev nD) (i : S1x1024x3.Idx),
  m ((c : Thread nD τ).loc main_arg0) i ≠ (⊥ : EReal) ∧ m ((c : Thread nD τ).loc main_arg0) i ≠ (⊤ : EReal)

theorem final_idx (hm : Placed m) (c : Dev nD) : (dats m 0 c).arrAt 4 cfg0.N = refIdx (m ((c : Thread nD τ).loc main_arg0)) := by
  refine (dats m 0 c).arrAt_eq_of_covers 4 _ (by decide +kernel) fun t _ y => ?_
  obtain ⟨r, j, rfl⟩ : ∃ (r : Fin 256) (j : Fin 32), y = (ix2 r j : S256x32.Idx) := ⟨y 0, y 1, by idx_ext⟩
  have he : ((cfg0.win 4).blk t).view.emb (ix2 r j : S256x32.Idx) = (ix2 (rowAt t r) j : S1024x32.Idx) := by
    blk_ext [idx t]
    show t.val * 256 + r.val = 256 * t.val + r.val
    omega
  blk_simp
  rw [after0_4, out_idx]
  frame_out
  have hd : ∀ i, row (dist (iblk m c 0 t) (iblk m c 1 t)) r i < ⊤ := by
    intro i
    rw [row_at]
    show refDist _ (ix3 0 (rowAt t r) i) < ⊤
    rw [refDist_at]
    exact apart_lt _ _ (fun k => hm c _) (fun k => hm c _)
  refine (cols_word _ _ r j hd).trans (Eq.trans ?_ (congrArg (refIdx (m ((c : Thread nD τ).loc main_arg0))) he).symm)
  rw [refIdx_at, row_at]

/-- What the precondition says. -/
theorem placed_of_pre (P : FVec Ideal S1x1024x3 .f32) (W : FVec Ideal S128x3 .f32) (g v : FVec Ideal S128 .f32)
    (h : Cert.Pre_pos_sound.fn (F := Ideal) P W g v = fun _ => 1#1) :
    (∀ i, P i ≠ (⊥ : EReal) ∧ P i ≠ (⊤ : EReal)) ∧ ∀ i, v i + Ideal.ofBits .f32 0x3727C5AC#32 ≠ 0 := by
  unfold Cert.Pre_pos_sound.fn at h
  dsimp only at h
  obtain ⟨a, b⟩ := Encode.and_parts _ _ h
  refine ⟨fun i => ?_, Encode.roots _ _ _ _ _ b⟩
  obtain ⟨r, e⟩ := Encode.nums _ _ _ _ a i
  rw [e]
  exact ⟨EReal.coe_ne_bot r, EReal.coe_ne_top r⟩

end Cert.Proof.Nearest

end
-- ==== Proof.EncodeBlock.lean ====
/-  What the encoder's body computes of a block, layer by layer. -/
module

public import proofs.«01_k».proof.Proof.Gen.EncodeIdeal.Frame
public import Idealize.ShloMosaic.Lib.Pipeline.ValueKit

@[expose] public section

set_option maxRecDepth 16384

noncomputable section

namespace Cert.Proof.Encode

open Idealize.ShloMosaic Idealize.ShloMosaic.TcCoe
open Cert.EncodeIdeal Cert.EncodeIdeal.Gen

variable (x0 : FVec Ideal S4096x128 .f32) (x1 : FVec Ideal S128x128 .f32) (x2 : FVec Ideal S1x128 .f32) (x3 : FVec Ideal S256x128 .f32) (x4 : FVec Ideal S1x256 .f32) (x5 : FVec Ideal S512x256 .f32) (x6 : FVec Ideal S512x256 .f32) (x7 : FVec Ideal S1x512 .f32) (x8 : FVec Ideal S256x512 .f32) (x9 : FVec Ideal S1x256 .f32)

/-- The first layer of a block: a row is a neighbour of a point, its 32 neighbours follow each other. -/
def first : FVec Ideal S4096x128 .f32 :=
  maximumf (addf (shapeCast S4096x128 (subf (shapeCast S128x32x128 x0 shapeCasts_S4096x128_S128x32x128) (broadcastTo S128x32x128 (shapeCast S128x1x128 x1 shapeCasts_S128x128_S128x1x128) broadcasts_S128x1x128_S128x32x128)) shapeCasts_S128x32x128_S4096x128) (broadcastTo S4096x128 (shapeCast S1x128 x2 shapeCasts_S1x128_S1x128) broadcasts_S1x128_S4096x128)) (broadcast S4096x128 (Scalar.ofBits .f32 0x00000000#32))

/-- The second layer. -/
def second (h : FVec Ideal S4096x128 .f32) : FVec Ideal S4096x256 .f32 :=
  addf (matmul dot_S4096x128_S256x128_S4096x256_1_1_0_0_n_n none h x3 (constant S4096x256 .f32 0x00000000#32)) (broadcastTo S4096x256 (shapeCast S1x256 x4 shapeCasts_S1x256_S1x256) broadcasts_S1x256_S4096x256)

/-- The greatest of a point's 32 rows. -/
def greatest (h : FVec Ideal S4096x256 .f32) : FVec Ideal S128x256 .f32 :=
  multiReduction .maximumf [1] S128x256 (shapeCast S128x32x256 h shapeCasts_S4096x256_S128x32x256) 0xFF800000#32 reduces_S128x32x256_S128x256 (.inl rfl) rfl

/-- The third layer, of a row beside the greatest of its point's rows. -/
def third (h : FVec Ideal S4096x256 .f32) : FVec Ideal S4096x512 .f32 :=
  maximumf (addf (addf (matmul dot_S4096x256_S512x256_S4096x512_1_1_0_0_n_n none h (shapeCast S512x256 x6 shapeCasts_S512x256_S512x256) (constant S4096x512 .f32 0x00000000#32))
    (shapeCast S4096x512 (broadcastTo S128x32x512 (shapeCast S128x1x512 (shapeCast S128x1x512 (matmul dot_S128x256_S512x256_S128x512_1_1_0_0_n_n none (greatest h) (shapeCast S512x256 x5 shapeCasts_S512x256_S512x256) (constant S128x512 .f32 0x00000000#32)) shapeCasts_S128x512_S128x1x512) shapeCasts_S128x1x512_S128x1x512) broadcasts_S128x1x512_S128x32x512) shapeCasts_S128x32x512_S4096x512))
    (broadcastTo S4096x512 (shapeCast S1x512 x7 shapeCasts_S1x512_S1x512) broadcasts_S1x512_S4096x512)) (broadcast S4096x512 (Scalar.ofBits .f32 0x00000000#32))

/-- The last layer and its maxima. -/
def last (h : FVec Ideal S4096x512 .f32) : FVec Ideal S1x256x128 .f32 :=
  shapeCast S1x256x128 (transpose S256x128 [1, 0] (multiReduction .maximumf [1] S128x256 (shapeCast S128x32x256
    (addf (matmul dot_S4096x512_S256x512_S4096x256_1_1_0_0_n_n none h x8 (constant S4096x256 .f32 0x00000000#32))
      (broadcastTo S4096x256 (shapeCast S1x256 x9 shapeCasts_S1x256_S1x256) broadcasts_S1x256_S4096x256))
    shapeCasts_S4096x256_S128x32x256) 0xFF800000#32 reduces_S128x32x256_S128x256 (.inl rfl) rfl) transposes_S128x256_p1_0_S256x128) shapeCasts_S256x128_S1x256x128

theorem out_eq : k0_pay1 (k0_pay2 x0 x1 x2 x3 x4 x5 x6 x7) (k0_pay3 (F := Ideal)) x8 x9
    = last x8 x9 (third x5 x6 x7 (second x3 x4 (first x0 x1 x2))) := rfl

theorem first_at (r : Fin 4096) (i : Fin 128) :
    first x0 x1 x2 (ix2 r i) = max (x0 (ix2 r i) - x1 (ix2 ⟨r.val / 32, by omega⟩ i) + x2 (ix2 0 i)) 0 := by
  pointwise [first]

theorem second_at (h : FVec Ideal S4096x128 .f32) (r : Fin 4096) (o : Fin 256) :
    second x3 x4 h (ix2 r o) = ∑ i : Fin 128, h (ix2 r i) * x3 (ix2 o i) + x4 (ix2 0 o) := by
  pointwise [second]

theorem greatest_at (h : FVec Ideal S4096x256 .f32) (g : Fin 128) (o : Fin 256) :
    greatest h (ix2 g o) = Finset.fold max (Ideal.ofBits .f32 0xFF800000#32) (fun k : Fin 32 => h (ix2 ⟨g.val * 32 + k.val, by omega⟩ o)) Finset.univ := by
  pointwise [greatest]

theorem third_at (h : FVec Ideal S4096x256 .f32) (r : Fin 4096) (o : Fin 512) :
    third x5 x6 x7 h (ix2 r o) = max (∑ j : Fin 256, h (ix2 r j) * x6 (ix2 o j)
      + ∑ j : Fin 256, greatest h (ix2 ⟨r.val / 32, by omega⟩ j) * x5 (ix2 o j) + x7 (ix2 0 o)) 0 := by
  pointwise [third]

theorem last_at (h : FVec Ideal S4096x512 .f32) (g : Fin 128) (o : Fin 256) :
    last x8 x9 h (ix3 0 o g) = Finset.fold max (Ideal.ofBits .f32 0xFF800000#32)
      (fun k : Fin 32 => ∑ j : Fin 512, h (ix2 ⟨g.val * 32 + k.val, by omega⟩ j) * x8 (ix2 o j) + x9 (ix2 0 o)) Finset.univ := by
  pointwise [last]

end Cert.Proof.Encode

end
-- ==== Proof.EncodeRef.lean ====
/-  The reference's encoder, layer by layer. -/
module

public import proofs.«01_k».proof.Proof.Gen.EncodeRefIdeal.Run
public import Idealize.ShloMosaic.Lib.Pointwise
public import Idealize.ShloMosaic.Lib.ValueIdx

@[expose] public section

set_option maxRecDepth 16384

noncomputable section

namespace Cert.Proof.Encode

open Idealize.ShloMosaic Idealize.ShloMosaic.TcCoe
open Cert.EncodeRefIdeal Cert.EncodeRefIdeal.Gen

variable (A : FVec Ideal S32768x128 .f32) (C : FVec Ideal S1024x128 .f32) (b1 : FVec Ideal S128 .f32) (g1 : FVec Ideal S128 .f32) (bt1 : FVec Ideal S128 .f32) (rm1 : FVec Ideal S128 .f32) (rv1 : FVec Ideal S128 .f32) (W2 : FVec Ideal S256x128 .f32) (b2 : FVec Ideal S256 .f32) (W3 : FVec Ideal S512x512 .f32) (b3 : FVec Ideal S512 .f32) (g3 : FVec Ideal S512 .f32) (bt3 : FVec Ideal S512 .f32) (rm3 : FVec Ideal S512 .f32) (rv3 : FVec Ideal S512 .f32) (W4 : FVec Ideal S256x512 .f32) (b4 : FVec Ideal S256 .f32)

/-- The first layer. -/
def refFirst : FVec Ideal S1024x128x32 .f32 :=
  maximumf (addf (transpose S1024x128x32 [0, 2, 1] (subf (shapeCast _ A shapeCasts_S32768x128_S1024x32x128) (broadcastInDim S1024x32x128 ![0, 1, 2] bcast_S1024x1x128_S1024x32x128_0_1_2 (broadcastInDim S1024x1x128 ![0, 2] bcast_S1024x128_S1024x1x128_0_2 C))) transposes_S1024x32x128_S1024x128x32_0_2_1) (broadcastInDim S1024x128x32 ![0, 1, 2] bcast_S1x128x1_S1024x128x32_0_1_2 (addf (mulf (Host.divf (subf (broadcastInDim S1x128x1 ![1] bcast_S128_S1x128x1_1 b1) (broadcastInDim S1x128x1 ![1] bcast_S128_S1x128x1_1 rm1)) (Host.sqrt (addf (broadcastInDim S1x128x1 ![1] bcast_S128_S1x128x1_1 rv1) (broadcastInDim S1x128x1 ![] bcast_S_S1x128x1 (constant S_ .f32 0x3727C5AC#32))))) (broadcastInDim S1x128x1 ![1] bcast_S128_S1x128x1_1 g1)) (broadcastInDim S1x128x1 ![1] bcast_S128_S1x128x1_1 bt1)))) (broadcastInDim S1024x128x32 ![] bcast_S_S1024x128x32 (constant S_ .f32 0x00000000#32))

/-- The second layer. -/
def refSecond (H : FVec Ideal S1024x128x32 .f32) : FVec Ideal S1024x256x32 .f32 :=
  addf (transpose S1024x256x32 [0, 2, 1] (Host.dotGeneral dot_S1024x128x32_S256x128_S1024x32x256_1_1_02_0_n_n none H W2) transposes_S1024x32x256_S1024x256x32_0_2_1) (broadcastInDim S1024x256x32 ![0, 1, 2] bcast_S1x256x1_S1024x256x32_0_1_2 (broadcastInDim S1x256x1 ![1] bcast_S256_S1x256x1_1 b2))

/-- The greatest over a point's neighbours. -/
def refGreatest (H : FVec Ideal S1024x256x32 .f32) : FVec Ideal S1024x256 .f32 :=
  Host.reduce FloatOps.maximumf H (constant S_ .f32 0xFF800000#32) reducesTo_S1024x256x32_S1024x256_d2 h_S_

/-- The greatest, for every neighbour, above the second layer. -/
def refJoined (H : FVec Ideal S1024x256x32 .f32) : FVec Ideal S1024x512x32 .f32 :=
  concatenate S1024x512x32 1 [⟨S1024x256x32, (broadcastInDim S1024x256x32 ![0, 1, 2] bcast_S1024x256x1_S1024x256x32_0_1_2 (broadcastInDim S1024x256x1 ![0, 1] bcast_S1024x256_S1024x256x1_0_1 (refGreatest H)))⟩, ⟨S1024x256x32, H⟩] concatenates_S1024x256x32_S1024x256x32_S1024x512x32_d1

/-- The third layer. -/
def refThird (H : FVec Ideal S1024x512x32 .f32) : FVec Ideal S1024x512x32 .f32 :=
  maximumf (addf (mulf (Host.divf (subf (addf (transpose S1024x512x32 [0, 2, 1] (Host.dotGeneral dot_S1024x512x32_S512x512_S1024x32x512_1_1_02_0_n_n none H W3) transposes_S1024x32x512_S1024x512x32_0_2_1) (broadcastInDim S1024x512x32 ![0, 1, 2] bcast_S1x512x1_S1024x512x32_0_1_2 (broadcastInDim S1x512x1 ![1] bcast_S512_S1x512x1_1 b3))) (broadcastInDim S1024x512x32 ![0, 1, 2] bcast_S1x512x1_S1024x512x32_0_1_2 (broadcastInDim S1x512x1 ![1] bcast_S512_S1x512x1_1 rm3))) (broadcastInDim S1024x512x32 ![0, 1, 2] bcast_S1x512x1_S1024x512x32_0_1_2 (Host.sqrt (addf (broadcastInDim S1x512x1 ![1] bcast_S512_S1x512x1_1 rv3) (broadcastInDim S1x512x1 ![] bcast_S_S1x512x1 (constant S_ .f32 0x3727C5AC#32)))))) (broadcastInDim S1024x512x32 ![0, 1, 2] bcast_S1x512x1_S1024x512x32_0_1_2 (broadcastInDim S1x512x1 ![1] bcast_S512_S1x512x1_1 g3))) (broadcastInDim S1024x512x32 ![0, 1, 2] bcast_S1x512x1_S1024x512x32_0_1_2 (broadcastInDim S1x512x1 ![1] bcast_S512_S1x512x1_1 bt3))) (broadcastInDim S1024x512x32 ![] bcast_S_S1024x512x32 (constant S_ .f32 0x00000000#32))

/-- The last layer and its maxima. -/
def refLast (H : FVec Ideal S1024x512x32 .f32) : FVec Ideal S1x256x1024 .f32 :=
  transpose S1x256x1024 [0, 2, 1] (shapeCast _ (Host.reduce FloatOps.maximumf (addf (transpose S1024x256x32 [0, 2, 1] (Host.dotGeneral dot_S1024x512x32_S256x512_S1024x32x256_1_1_02_0_n_n none H W4) transposes_S1024x32x256_S1024x256x32_0_2_1) (broadcastInDim S1024x256x32 ![0, 1, 2] bcast_S1x256x1_S1024x256x32_0_1_2 (broadcastInDim S1x256x1 ![1] bcast_S256_S1x256x1_1 b4))) (constant S_ .f32 0xFF800000#32) reducesTo_S1024x256x32_S1024x256_d2 h_S_) shapeCasts_S1024x256_S1x1024x256) transposes_S1x1024x256_S1x256x1024_0_2_1

/-- The reference's result. -/
def refEncode : FVec Ideal S1x256x1024 .f32 :=
  refLast W4 b4 (refThird W3 b3 g3 bt3 rm3 rv3 (refJoined (refSecond W2 b2 (refFirst A C b1 g1 bt1 rm1 rv1))))

theorem refFirst_at (n : Fin 1024) (i : Fin 128) (k : Fin 32) :
    refFirst A C b1 g1 bt1 rm1 rv1 (ix3 n i k) = max (A (ix2 ⟨n.val * 32 + k.val, by omega⟩ i) - C (ix2 n i) + (Ideal.div (b1 (ix1 i) - rm1 (ix1 i)) (Ideal.sqrt (rv1 (ix1 i) + Ideal.ofBits .f32 0x3727C5AC#32)) * g1 (ix1 i) + bt1 (ix1 i))) 0 := by
  pointwise [refFirst]

theorem refSecond_at (H : FVec Ideal S1024x128x32 .f32) (n : Fin 1024) (o : Fin 256) (k : Fin 32) :
    refSecond W2 b2 H (ix3 n o k) = ∑ i : Fin 128, H (ix3 n i k) * W2 (ix2 o i) + b2 (ix1 o) := by
  pointwise [refSecond]

theorem refGreatest_at (H : FVec Ideal S1024x256x32 .f32) (n : Fin 1024) (o : Fin 256) :
    refGreatest H (ix2 n o) = Finset.fold max (Ideal.ofBits .f32 0xFF800000#32) (fun k : Fin 32 => H (ix3 n o k)) Finset.univ := by
  pointwise [refGreatest]

theorem refJoined_lo (H : FVec Ideal S1024x256x32 .f32) (n : Fin 1024) (j : Fin 256) (k : Fin 32) :
    refJoined H (ix3 n ⟨j.val, by omega⟩ k) = refGreatest H (ix2 n j) := by
  pointwise [refJoined]

theorem refJoined_hi (H : FVec Ideal S1024x256x32 .f32) (n : Fin 1024) (j : Fin 256) (k : Fin 32) :
    refJoined H (ix3 n ⟨256 + j.val, by omega⟩ k) = H (ix3 n j k) := by
  pointwise [refJoined]

theorem refThird_at (H : FVec Ideal S1024x512x32 .f32) (n : Fin 1024) (o : Fin 512) (k : Fin 32) :
    refThird W3 b3 g3 bt3 rm3 rv3 H (ix3 n o k) = max (Ideal.div (∑ j : Fin 512, H (ix3 n j k) * W3 (ix2 o j) + b3 (ix1 o) - rm3 (ix1 o)) (Ideal.sqrt (rv3 (ix1 o) + Ideal.ofBits .f32 0x3727C5AC#32)) * g3 (ix1 o) + bt3 (ix1 o)) 0 := by
  pointwise [refThird]

theorem refLast_at (H : FVec Ideal S1024x512x32 .f32) (n : Fin 1024) (o : Fin 256) :
    refLast W4 b4 H (ix3 0 o n) = Finset.fold max (Ideal.ofBits .f32 0xFF800000#32)
      (fun k : Fin 32 => ∑ j : Fin 512, H (ix3 n j k) * W4 (ix2 o j) + b4 (ix1 o)) Finset.univ := by
  pointwise [refLast]

end Cert.Proof.Encode

end
-- ==== Proof.EncodeValue.lean ====
/-  What the encoder leaves in its result array. -/
module

public import proofs.«01_k».proof.Proof.EncodeBlock
public import proofs.«01_k».proof.Proof.EncodeRef
public import proofs.«01_k».proof.Proof.EncodeReal
public import Idealize.ShloMosaic.Lib.Pipeline.ValueKit
public import Idealize.ShloMosaic.Lib.Claim

@[expose] public section

set_option maxRecDepth 16384

noncomputable section

namespace Cert.Proof.Encode

open Idealize.ShloMosaic Idealize.ShloMosaic.TcCoe Idealize.SL.Sem
open Idealize.ShloMosaic.Pipeline (Dat)
open Cert.EncodeIdeal Cert.EncodeIdeal.Gen

variable (m : (ℓ : Loc nD τ sig) → Buf (Elt Ideal) ℓ)

/-- The block each window is on at a point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0, t.val] ∧ t.val < 8 :=
  (by decide +kernel : ∀ t : Fin grid0.N, _)

theorem lt8 (t : Fin cfg0.N) : t.val < 8 := (idx t).2.2.2.2.2.2.2.2.2.2.2

/-- The point that a block's point is, and the point and the neighbour that a block's row is of. -/
def ptAt (t : Fin cfg0.N) (g : Fin 128) : Fin 1024 := ⟨128 * t.val + g.val, by have := lt8 t; omega⟩
def ptOf (r : Fin 4096) : Fin 128 := ⟨r.val / 32, by omega⟩
def nbOf (r : Fin 4096) : Fin 32 := ⟨r.val % 32, by omega⟩
def rowOf (g : Fin 128) (k : Fin 32) : Fin 4096 := ⟨g.val * 32 + k.val, by omega⟩

theorem ptOf_row (g : Fin 128) (k : Fin 32) : ptOf (rowOf g k) = g := Fin.ext (by show (g.val * 32 + k.val) / 32 = g.val; omega)
theorem nbOf_row (g : Fin 128) (k : Fin 32) : nbOf (rowOf g k) = k := Fin.ext (by show (g.val * 32 + k.val) % 32 = k.val; omega)

abbrev A (c : Dev nD) : FVec Ideal S32768x128 .f32 := m ((c : Thread nD τ).loc main_arg0)
abbrev C (c : Dev nD) : FVec Ideal S1024x128 .f32 := m ((c : Thread nD τ).loc main_arg1)
abbrev B1 (c : Dev nD) : FVec Ideal S128 .f32 := m ((c : Thread nD τ).loc main_arg2)
abbrev G1 (c : Dev nD) : FVec Ideal S128 .f32 := m ((c : Thread nD τ).loc main_arg3)
abbrev T1 (c : Dev nD) : FVec Ideal S128 .f32 := m ((c : Thread nD τ).loc main_arg4)
abbrev M1 (c : Dev nD) : FVec Ideal S128 .f32 := m ((c : Thread nD τ).loc main_arg5)
abbrev V1 (c : Dev nD) : FVec Ideal S128 .f32 := m ((c : Thread nD τ).loc main_arg6)
abbrev W2 (c : Dev nD) : FVec Ideal S256x128 .f32 := m ((c : Thread nD τ).loc main_arg7)
abbrev B2 (c : Dev nD) : FVec Ideal S256 .f32 := m ((c : Thread nD τ).loc main_arg8)
abbrev W3 (c : Dev nD) : FVec Ideal S512x512 .f32 := m ((c : Thread nD τ).loc main_arg9)
abbrev B3 (c : Dev nD) : FVec Ideal S512 .f32 := m ((c : Thread nD τ).loc main_arg10)
abbrev G3 (c : Dev nD) : FVec Ideal S512 .f32 := m ((c : Thread nD τ).loc main_arg11)
abbrev T3 (c : Dev nD) : FVec Ideal S512 .f32 := m ((c : Thread nD τ).loc main_arg12)
abbrev M3 (c : Dev nD) : FVec Ideal S512 .f32 := m ((c : Thread nD τ).loc main_arg13)
abbrev V3 (c : Dev nD) : FVec Ideal S512 .f32 := m ((c : Thread nD τ).loc main_arg14)
abbrev W4 (c : Dev nD) : FVec Ideal S256x512 .f32 := m ((c : Thread nD τ).loc main_arg15)
abbrev B4 (c : Dev nD) : FVec Ideal S256 .f32 := m ((c : Thread nD τ).loc main_arg16)

/-- The two normalisations' scales, as the kernel takes them. -/
abbrev sc1 (c : Dev nD) (i : Fin 128) : EReal := Ideal.div (G1 m c (ix1 i)) (Ideal.sqrt (V1 m c (ix1 i) + Ideal.ofBits .f32 0x3727C5AC#32))
abbrev sc3 (c : Dev nD) (o : Fin 512) : EReal := Ideal.div (G3 m c (ix1 o)) (Ideal.sqrt (V3 m c (ix1 o) + Ideal.ofBits .f32 0x3727C5AC#32))

/-! ## The blocks -/

theorem blk0 (c : Dev nD) (t : Fin cfg0.N) (r : Fin 4096) (i : Fin 128) :
    (iblk m c 0 t : FVec Ideal S4096x128 .f32) (ix2 r i) = A m c (ix2 ⟨(ptAt t (ptOf r)).val * 32 + (nbOf r).val, by omega⟩ i) := by
  blk_ext! [iblk, V, idx t]
  show t.val * 4096 + r.val = (128 * t.val + r.val / 32) * 32 + r.val % 32
  omega

theorem blk1 (c : Dev nD) (t : Fin cfg0.N) (g : Fin 128) (i : Fin 128) :
    (iblk m c 1 t : FVec Ideal S128x128 .f32) (ix2 g i) = C m c (ix2 (ptAt t g) i) := by
  blk_ext! [iblk, V, idx t]
  show t.val * 128 + g.val = 128 * t.val + g.val
  omega

theorem blk2 (c : Dev nD) (t : Fin cfg0.N) (i : Fin 128) :
    (iblk m c 2 t : FVec Ideal S1x128 .f32) (ix2 0 i) = (B1 m c (ix1 i) - M1 m c (ix1 i)) * sc1 m c i + T1 m c (ix1 i) := by
  have e : ((View.whole main_v9).slice (win0_2.rect t)).emb (ix2 0 i) = (ix2 0 i : S1x128.Idx) := by blk_ext [idx t]
  blk_simp [iblk]
  rw [e]
  entry_read
  pointwise

theorem blk3 (c : Dev nD) (t : Fin cfg0.N) (o : Fin 256) (i : Fin 128) :
    (iblk m c 3 t : FVec Ideal S256x128 .f32) (ix2 o i) = W2 m c (ix2 o i) := by
  blk_ext! [iblk, V, idx t]

theorem blk4 (c : Dev nD) (t : Fin cfg0.N) (o : Fin 256) :
    (iblk m c 4 t : FVec Ideal S1x256 .f32) (ix2 0 o) = B2 m c (ix1 o) := by
  blk_simp [iblk]
  entry_read
  pointwise
  blk_ext! [idx t]

theorem blk5 (c : Dev nD) (t : Fin cfg0.N) (o : Fin 512) (j : Fin 256) :
    (iblk m c 5 t : FVec Ideal S512x256 .f32) (ix2 o j) = W3 m c (ix2 o ⟨j.val, by omega⟩) * sc3 m c o := by
  have e : ((View.whole main_v21).slice (win0_5.rect t)).emb (ix2 o j) = (ix2 o j : S512x256.Idx) := by blk_ext [idx t]
  blk_simp [iblk]
  rw [e]
  entry_read
  pointwise

theorem blk6 (c : Dev nD) (t : Fin cfg0.N) (o : Fin 512) (j : Fin 256) :
    (iblk m c 6 t : FVec Ideal S512x256 .f32) (ix2 o j) = W3 m c (ix2 o ⟨256 + j.val, by omega⟩) * sc3 m c o := by
  have e : ((View.whole main_v22).slice (win0_6.rect t)).emb (ix2 o j) = (ix2 o j : S512x256.Idx) := by blk_ext [idx t]
  blk_simp [iblk]
  rw [e]
  entry_read
  pointwise

theorem blk7 (c : Dev nD) (t : Fin cfg0.N) (o : Fin 512) :
    (iblk m c 7 t : FVec Ideal S1x512 .f32) (ix2 0 o) = (B3 m c (ix1 o) - M3 m c (ix1 o)) * sc3 m c o + T3 m c (ix1 o) := by
  have e : ((View.whole main_v20).slice (win0_7.rect t)).emb (ix2 0 o) = (ix2 0 o : S1x512.Idx) := by blk_ext [idx t]
  blk_simp [iblk]
  rw [e]
  entry_read
  pointwise

theorem blk8 (c : Dev nD) (t : Fin cfg0.N) (o : Fin 256) (j : Fin 512) :
    (iblk m c 8 t : FVec Ideal S256x512 .f32) (ix2 o j) = W4 m c (ix2 o j) := by
  blk_ext! [iblk, V, idx t]

theorem blk9 (c : Dev nD) (t : Fin cfg0.N) (o : Fin 256) :
    (iblk m c 9 t : FVec Ideal S1x256 .f32) (ix2 0 o) = B4 m c (ix1 o) := by
  blk_simp [iblk]
  entry_read
  pointwise
  blk_ext! [idx t]

/-! ## The layers -/

abbrev f1 (c : Dev nD) (t : Fin cfg0.N) : FVec Ideal S4096x128 .f32 := first (iblk m c 0 t) (iblk m c 1 t) (iblk m c 2 t)
abbrev r1 (c : Dev nD) := refFirst (A m c) (C m c) (B1 m c) (G1 m c) (T1 m c) (M1 m c) (V1 m c)
abbrev f2 (c : Dev nD) (t : Fin cfg0.N) : FVec Ideal S4096x256 .f32 := second (iblk m c 3 t) (iblk m c 4 t) (f1 m c t)
abbrev r2 (c : Dev nD) := refSecond (W2 m c) (B2 m c) (r1 m c)
abbrev f3 (c : Dev nD) (t : Fin cfg0.N) : FVec Ideal S4096x512 .f32 := third (iblk m c 5 t) (iblk m c 6 t) (iblk m c 7 t) (f2 m c t)
abbrev r3 (c : Dev nD) := refThird (W3 m c) (B3 m c) (G3 m c) (T3 m c) (M3 m c) (V3 m c) (refJoined (r2 m c))

/-- What the precondition says of one device's arrays. -/
abbrev Good (c : Dev nD) : Prop := Sound (A m c) (C m c) (B1 m c) (G1 m c) (T1 m c) (M1 m c) (V1 m c) (W2 m c) (B2 m c) (W3 m c) (B3 m c) (G3 m c) (T3 m c) (M3 m c) (V3 m c) (W4 m c) (B4 m c)

variable {m} {c : Dev nD} (hs : Good m c)
include hs

theorem first_eq (t : Fin cfg0.N) (r : Fin 4096) (i : Fin 128) :
    f1 m c t (ix2 r i) = r1 m c (ix3 (ptAt t (ptOf r)) i (nbOf r)) := by
  unfold f1 r1
  rw [first_at, refFirst_at, blk0, blk2, norm_swap _ _ (hs.pv1 _)]
  exact congrArg (fun x => max (_ - x + _) 0) (blk1 m c t (ptOf r) i)

theorem second_eq (t : Fin cfg0.N) (r : Fin 4096) (o : Fin 256) :
    f2 m c t (ix2 r o) = r2 m c (ix3 (ptAt t (ptOf r)) o (nbOf r)) := by
  unfold f2 r2
  rw [second_at, refSecond_at, blk4]
  refine congrArg (· + _) (Finset.sum_congr rfl fun i _ => ?_)
  rw [first_eq hs, blk3]

theorem greatest_eq (t : Fin cfg0.N) (g : Fin 128) (o : Fin 256) :
    greatest (f2 m c t) (ix2 g o) = refGreatest (r2 m c) (ix2 (ptAt t g) o) := by
  rw [greatest_at, refGreatest_at]
  refine Finset.fold_congr fun k _ => ?_
  refine (second_eq hs t (rowOf g k) o).trans ?_
  rw [ptOf_row, nbOf_row]

/-! The first two layers are reals. -/

theorem num_first (n : Fin 1024) (i : Fin 128) (k : Fin 32) : Num (r1 m c (ix3 n i k)) := by
  unfold r1
  obtain ⟨q, hq⟩ := div_root (hs.pv1 (ix1 i))
  rw [refFirst_at, hq]
  exact (((hs.nA _).sub (hs.nC _)).add (((((hs.nb1 _).sub (hs.nrm1 _)).mul ⟨q, rfl⟩).mul (hs.ng1 _)).add (hs.nbt1 _))).max Num.zero

theorem num_second (n : Fin 1024) (o : Fin 256) (k : Fin 32) : Num (r2 m c (ix3 n o k)) := by
  unfold r2
  rw [refSecond_at]
  exact (Num.sum _ _ fun i => (num_first hs n i k).mul (hs.nW2 _)).add (hs.nb2 _)

theorem num_joined (n : Fin 1024) (j : Fin 512) (k : Fin 32) : Num (refJoined (r2 m c) (ix3 n j k)) := by
  by_cases h : j.val < 256
  · have e := refJoined_lo (r2 m c) n ⟨j.val, h⟩ k
    rw [refGreatest_at, bot_eq] at e
    exact e ▸ Num.fold (by omega) _ fun l => num_second hs n _ l
  · have e := refJoined_hi (r2 m c) n ⟨j.val - 256, by omega⟩ k
    have hj : (⟨256 + (j.val - 256), by omega⟩ : Fin 512) = j := Fin.ext (by show 256 + (j.val - 256) = j.val; omega)
    rw [hj] at e
    exact e ▸ num_second hs n _ k

omit hs in
/-- A sum over 512 is one over its first half and one over its second. -/
theorem sum_halves (f : Fin 512 → EReal) :
    ∑ j, f j = ∑ j : Fin 256, f ⟨j.val, by omega⟩ + ∑ j : Fin 256, f ⟨256 + j.val, by omega⟩ :=
  Fin.sum_univ_add (a := 256) (b := 256) f

theorem third_eq (t : Fin cfg0.N) (r : Fin 4096) (o : Fin 512) :
    f3 m c t (ix2 r o) = r3 m c (ix3 (ptAt t (ptOf r)) o (nbOf r)) := by
  unfold f3 r3
  rw [third_at, refThird_at, blk7]
  refine congrArg (fun x => max x 0) ?_
  refine Eq.trans ?_ (norm_fold (fun j => refJoined (r2 m c) (ix3 (ptAt t (ptOf r)) j (nbOf r))) (fun j => W3 m c (ix2 o j))
    (fun j => num_joined hs _ j _) (fun j => hs.nW3 _) (hs.ng3 (ix1 o)) (hs.pv3 (ix1 o)) (B3 m c (ix1 o)) (M3 m c (ix1 o)) (T3 m c (ix1 o)))
  refine congrArg (· + _) ?_
  refine Eq.trans ?_ (sum_halves fun j => refJoined (r2 m c) (ix3 (ptAt t (ptOf r)) j (nbOf r)) * (W3 m c (ix2 o j) * sc3 m c o)).symm
  refine (add_comm _ _).trans (congrArg₂ (· + ·) (Finset.sum_congr rfl fun j _ => ?_) (Finset.sum_congr rfl fun j _ => ?_))
  · exact congrArg₂ (· * ·) ((greatest_eq hs t (ptOf r) j).trans (refJoined_lo _ _ j _).symm) (blk5 m c t o j)
  · exact congrArg₂ (· * ·) ((second_eq hs t r j).trans (refJoined_hi _ _ j _).symm) (blk6 m c t o j)

omit hs in
/-- The reference's result, of the arrays in the memory. -/
abbrev wanted (m : (ℓ : Loc nD τ sig) → Buf (Elt Ideal) ℓ) (c : Dev nD) : FVec Ideal S1x256x1024 .f32 :=
  refEncode (A m c) (C m c) (B1 m c) (G1 m c) (T1 m c) (M1 m c) (V1 m c) (W2 m c) (B2 m c) (W3 m c) (B3 m c) (G3 m c) (T3 m c) (M3 m c) (V3 m c) (W4 m c) (B4 m c)

/-- The encoder's result is the reference's. -/
theorem final : (dats m 0 c).arrAt 10 cfg0.N = wanted m c := by
  refine (dats m 0 c).arrAt_eq_of_covers 10 _ (by decide +kernel) fun t _ y => ?_
  obtain ⟨z, o, g, rfl⟩ : ∃ (z : Fin 1) (o : Fin 256) (g : Fin 128), y = ix3 z o g := ⟨y 0, y 1, y 2, by idx_ext⟩
  have hz : z = 0 := Subsingleton.elim _ _
  subst hz
  have he : ((cfg0.win 10).blk t).view.emb (ix3 0 o g) = (ix3 0 o (ptAt t g) : S1x256x1024.Idx) := by
    blk_ext [idx t]
    show t.val * 128 + g.val = 128 * t.val + g.val
    omega
  blk_simp
  rw [after0_10]; frame_out
  refine Eq.trans ?_ (congrArg (wanted m c) he).symm
  unfold wanted refEncode
  rw [out_eq, last_at, refLast_at]
  refine Finset.fold_congr fun k _ => ?_
  rw [blk9]
  refine congrArg (· + _) (Finset.sum_congr rfl fun j _ => ?_)
  rw [blk8]
  refine congrArg (· * _) ((third_eq hs t (rowOf g k) j).trans ?_)
  rw [ptOf_row, nbOf_row]

end Cert.Proof.Encode

end
-- ==== Proof.lean ====
/-  The certificate: the gather's frames, its value, and the reference's. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_idx_in_rows
public import proofs.«01_k».proof.Proof.Gen.Pre_pos_sound
public import proofs.«01_k».proof.Proof.Gen.Pre_enc_sound
public import proofs.«01_k».proof.Proof.Gen.Nearest
public import proofs.«01_k».proof.Proof.Gen.NearestIdeal
public import proofs.«01_k».proof.Proof.Gen.NearestRefIdeal
public import proofs.«01_k».proof.Proof.Gen.NearestIdeal.Frame
public import proofs.«01_k».proof.Proof.Gen.NearestRefIdeal.Run
public import proofs.«01_k».proof.Proof.Gen.Encode
public import proofs.«01_k».proof.Proof.Gen.EncodeIdeal
public import proofs.«01_k».proof.Proof.Gen.EncodeRefIdeal
public import proofs.«01_k».proof.Proof.Gen.EncodeIdeal.Frame
public import proofs.«01_k».proof.Proof.Gen.EncodeRefIdeal.Run
public import proofs.«01_k».proof.Proof.Launch
public import proofs.«01_k».proof.Proof.Value
public import proofs.«01_k».proof.Proof.NearestValue
public import proofs.«01_k».proof.Proof.EncodeValue
public import Idealize.ShloMosaic.Adequacy
public import Idealize.ShloMosaic.Init

@[expose] public section

noncomputable section

namespace Cert.Proof

open Idealize.ShloMosaic Idealize.ShloMosaic.TcCoe Idealize.SL.Sem

/-! ## The kernel's run -/

theorem inRows_K (m : (ℓ : Loc Cert.Kernel.nD Cert.Kernel.τ Cert.Kernel.sig) → Buf (Elt Bits) ℓ) (h : Cert.Pre_Kernel m) :
    Gather.InRows (F := Bits) m := fun d z => Gather.inRows_of_pre (F := Bits) _ _ (h d) z
theorem inRows_KI (m : (ℓ : Loc Cert.KernelIdeal.nD Cert.KernelIdeal.τ Cert.KernelIdeal.sig) → Buf (Elt Ideal) ℓ) (h : Cert.Pre_KernelIdeal m) :
    Gather.InRows (F := Ideal) m := fun d z => Gather.inRows_of_pre (F := Ideal) _ _ (h d) z

theorem frame_ki : Cert.quiescent_KernelIdeal := fun m ρ hpre =>
  (θ_run Cert.KernelIdeal.defs _ _).mono (fun _ h => ⟨fun c => (h.1 c).2, h.2⟩) (Gather.run_main (F := Ideal) m ρ (inRows_KI m hpre))

/-- The program is its idealization's text, read at the bit patterns. -/
theorem frame_k : Cert.quiescent_Kernel := fun m ρ hpre =>
  (θ_run Cert.KernelIdeal.defs _ _).mono (fun _ h => ⟨fun c => (h.1 c).2, h.2⟩) (Gather.run_main (F := Bits) m ρ (inRows_K m hpre))

/-! ## The reference's run -/

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_pre : Cert.quiescent_ReferenceIdeal_pre_idx_in_rows := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_r : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

theorem algebraic : Cert.algebraic_KernelIdeal_ReferenceIdeal := by
  intro m ρ m' ρ' hpre hagree
  refine ⟨fun c => Gather.gath (m (Gather.aLoc c)) (m (Gather.iLoc c)),
    (θ_run Cert.KernelIdeal.defs _ _).mono (fun _ h c => h.1 c) (Gather.run_main (F := Ideal) m ρ (inRows_KI m hpre)), ?_⟩
  refine (θ_run Cert.ReferenceIdeal.defs _ _).mono (fun _ h c => ⟨(h c).1.trans ?_, (h c).2⟩) (Cert.ReferenceIdeal.Value.run (F := Ideal) m' ρ')
  rw [(hagree c).1, (hagree c).2]
  exact Gather.ref_value _ _ _ _ _ _ _ (fun _ => rfl) (inRows_KI m hpre c)

theorem bitexact : Cert.bitexact_Kernel_Reference := by
  intro m ρ m' ρ' hpre hagree
  refine ⟨fun c => Gather.gath (m (Gather.aLoc c)) (m (Gather.iLoc c)),
    (θ_run Cert.KernelIdeal.defs _ _).mono (fun _ h c => h.1 c) (Gather.run_main (F := Bits) m ρ (inRows_K m hpre)), ?_⟩
  refine (θ_run Cert.Reference.defs _ _).mono (fun _ h c => ⟨(h c).1.trans ?_, (h c).2⟩) (Cert.Reference.Value.run (F := Bits) m' ρ')
  rw [(hagree c).1, (hagree c).2]
  exact Gather.ref_value _ _ _ _ _ _ _ (fun _ => rfl) (inRows_K m hpre c)

/-! ## The nearest points -/

theorem frame_ni : Cert.quiescent_NearestIdeal := fun m ρ _ => Cert.NearestIdeal.Gen.frame (F := Ideal) m ρ
theorem frame_ni_pre : Cert.quiescent_NearestIdeal_pre_pos_sound := fun m ρ _ => Cert.NearestIdeal.Gen.frame (F := Ideal) m ρ

/-- The two programs' bodies are one text. -/
theorem nearest_body : Cert.Nearest.defs₀ (F := Bits) = Cert.NearestIdeal.defs₀ := by
  unfold Cert.Nearest.defs₀ Cert.NearestIdeal.defs₀
  refine congrArg Defs.onTc (funext fun l => funext fun x => ?_)
  match l, x with
  | 0, (t, s) => rfl

/-- The two programs' host code is one text. -/
theorem nearest_main : Cert.Nearest.main (F := Bits) = Cert.NearestIdeal.main := rfl

set_option maxHeartbeats 4000000 in
/-- The program is its idealization's text, read at the bit patterns. -/
theorem frame_n : Cert.quiescent_Nearest := fun m ρ _ => by
  have h := Cert.NearestIdeal.Gen.frame (F := Bits) m ρ
  have e : Cert.Nearest.defs (F := Bits) = Cert.NearestIdeal.defs := congrArg (Pipeline.defs Cert.Nearest.pcfgs) nearest_body
  rw [← e, ← nearest_main] at h
  exact h

theorem frame_nr : Cert.quiescent_NearestRefIdeal := fun m ρ _ =>
  (θ_run Cert.NearestRefIdeal.defs _ _).mono (fun r h => ⟨fun c => (h c).2.2, sem_eq_zero_of_no_sems (by decide) r.2⟩)
    (Cert.NearestRefIdeal.Value.run (F := Ideal) m ρ)
theorem frame_nr_pre : Cert.quiescent_NearestRefIdeal_pre_pos_sound := fun m ρ _ =>
  (θ_run Cert.NearestRefIdeal.defs _ _).mono (fun r h => ⟨fun c => (h c).2.2, sem_eq_zero_of_no_sems (by decide) r.2⟩)
    (Cert.NearestRefIdeal.Value.run (F := Ideal) m ρ)

theorem nearest_algebraic : Cert.algebraic_NearestIdeal_NearestRefIdeal_pre_pos_sound := by
  intro m ρ m' ρ' hpre hagree
  have hm : Nearest.Placed m := fun c => (Nearest.placed_of_pre _ _ _ _ (hpre c)).1
  have hv : Nearest.Varied m := fun c => (Nearest.placed_of_pre _ _ _ _ (hpre c)).2
  refine ⟨fun c => Nearest.refIdx (m (c.tc.loc Cert.NearestIdeal.main_arg0)),
    fun c => Nearest.refFeat (m (c.tc.loc Cert.NearestIdeal.main_arg0)) (m (c.tc.loc Cert.NearestIdeal.main_arg1)) (m (c.tc.loc Cert.NearestIdeal.main_arg2))
      (m (c.tc.loc Cert.NearestIdeal.main_arg3)),
    (θ_run Cert.NearestIdeal.defs _ _).mono
      (fun _ h c => ⟨((h.1 c).1 4).trans (Nearest.final_idx m hm c), ((h.1 c).1 5).trans (Nearest.final_feat m hv c), h.2 c⟩)
      (θ_run_and (Cert.NearestIdeal.Gen.run_main (F := Ideal) m ρ) (Cert.NearestIdeal.Gen.unchanged (F := Ideal) m ρ)), ?_⟩
  refine (θ_run Cert.NearestRefIdeal.defs _ _).mono (fun _ h c => ⟨(h c).1.trans ?_, (h c).2.1.trans ?_, (h c).2.2⟩)
    (Cert.NearestRefIdeal.Value.run (F := Ideal) m' ρ')
  · rw [(hagree c).1]
    rfl
  · rw [(hagree c).1, (hagree c).2.1, (hagree c).2.2.1, (hagree c).2.2.2]
    rfl

/-! ## The encoder -/

theorem frame_ei : Cert.quiescent_EncodeIdeal := fun m ρ _ => Cert.EncodeIdeal.Gen.frame (F := Ideal) m ρ
theorem frame_ei_pre : Cert.quiescent_EncodeIdeal_pre_enc_sound := fun m ρ _ => Cert.EncodeIdeal.Gen.frame (F := Ideal) m ρ

/-- The two programs' bodies are one text. -/
theorem encode_body : Cert.Encode.defs₀ (F := Bits) = Cert.EncodeIdeal.defs₀ := by
  unfold Cert.Encode.defs₀ Cert.EncodeIdeal.defs₀
  refine congrArg Defs.onTc (funext fun l => funext fun x => ?_)
  match l, x with
  | 0, (t, s) => rfl

/-- The two programs' host code is one text. -/
theorem encode_main : Cert.Encode.main (F := Bits) = Cert.EncodeIdeal.main := rfl

set_option maxHeartbeats 4000000 in
/-- The program is its idealization's text, read at the bit patterns. -/
theorem frame_e : Cert.quiescent_Encode := fun m ρ _ => by
  have h := Cert.EncodeIdeal.Gen.frame (F := Bits) m ρ
  have e : Cert.Encode.defs (F := Bits) = Cert.EncodeIdeal.defs := congrArg (Pipeline.defs Cert.Encode.pcfgs) encode_body
  rw [← e, ← encode_main] at h
  exact h

theorem frame_er : Cert.quiescent_EncodeRefIdeal := fun m ρ _ =>
  (θ_run Cert.EncodeRefIdeal.defs _ _).mono (fun r h => ⟨fun c => (h c).2, sem_eq_zero_of_no_sems (by decide) r.2⟩)
    (Cert.EncodeRefIdeal.Value.run (F := Ideal) m ρ)

theorem frame_er_pre : Cert.quiescent_EncodeRefIdeal_pre_enc_sound := fun m ρ _ =>
  (θ_run Cert.EncodeRefIdeal.defs _ _).mono (fun r h => ⟨fun c => (h c).2, sem_eq_zero_of_no_sems (by decide) r.2⟩)
    (Cert.EncodeRefIdeal.Value.run (F := Ideal) m ρ)

theorem encode_algebraic : Cert.algebraic_EncodeIdeal_EncodeRefIdeal_pre_enc_sound := by
  intro m ρ m' ρ' hpre hagree
  refine ⟨fun c => Encode.wanted m c,
    (θ_run Cert.EncodeIdeal.defs _ _).mono
      (fun _ h c => ⟨((h.1 c).1 10).trans (Encode.final (Encode.sound_of_pre _ _ _ _ _ _ _ _ _ _ _ _ _ _ _ _ _ (hpre c))), h.2 c⟩)
      (θ_run_and (Cert.EncodeIdeal.Gen.run_main (F := Ideal) m ρ) (Cert.EncodeIdeal.Gen.unchanged (F := Ideal) m ρ)), ?_⟩
  refine (θ_run Cert.EncodeRefIdeal.defs _ _).mono (fun _ h c => ⟨(h c).1.trans ?_, (h c).2⟩)
    (Cert.EncodeRefIdeal.Value.run (F := Ideal) m' ρ')
  obtain ⟨e0, e1, e2, e3, e4, e5, e6, e7, e8, e9, e10, e11, e12, e13, e14, e15, e16⟩ := hagree c
  unfold Cert.EncodeRefIdeal.Value.res_main_v59
  rw [e0, e1, e2, e3, e4, e5, e6, e7, e8, e9, e10, e11, e12, e13, e14, e15, e16]
  rfl

theorem claim : Cert.Claim :=
  ⟨Cert.Kernel.Gen.facts, Cert.KernelIdeal.Gen.facts, Cert.ReferenceIdeal.Gen.facts, Cert.Reference.Gen.facts, Cert.Nearest.Gen.facts,
    Cert.NearestIdeal.Gen.facts, Cert.NearestRefIdeal.Gen.facts, Cert.Encode.Gen.facts, Cert.EncodeIdeal.Gen.facts, Cert.EncodeRefIdeal.Gen.facts,
    Cert.Pre_idx_in_rows.Gen.facts, Cert.Pre_pos_sound.Gen.facts, Cert.Pre_enc_sound.Gen.facts,
    frame_k, frame_ki, frame_ri, frame_ri_pre, frame_r, frame_n, frame_ni, frame_ni_pre, frame_nr, frame_nr_pre, frame_e, frame_ei, frame_ei_pre, frame_er, frame_er_pre,
    trivial, algebraic, bitexact, trivial, nearest_algebraic, trivial, encode_algebraic⟩

end Cert.Proof

end
